-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_history_in_f32 [hPre_history_in_f32 : Cert.Pre_history_in_f32.Facts] (m : (ℓ : Loc Cert.KernelIdeal.nD Cert.KernelIdeal.τ Cert.KernelIdeal.sig) → Buf (Elt Ideal) ℓ) : Prop :=
  ∀ c : Dev Cert.KernelIdeal.nD,
    (Cert.Pre_history_in_f32.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_history_in_f32 [hPre_history_in_f32 : Cert.Pre_history_in_f32.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_history_in_f32.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_history_in_f32 [hKernelIdeal : Cert.KernelIdeal.Facts] [hPre_history_in_f32 : Cert.Pre_history_in_f32.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_history_in_f32 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_history_in_f32 [hReferenceIdeal : Cert.ReferenceIdeal.Facts] [hPre_history_in_f32 : Cert.Pre_history_in_f32.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_history_in_f32 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  IdealRules.named_const.Statement Cert.KernelIdeal.κ "kc" .f32 0x3D122279#32 (((Real.sqrt (2 * Real.pi⁻¹)) * (8943 / 200000) : ℝ) : EReal)
  ∧ IdealRules.named_const.Statement Cert.KernelIdeal.κ "k" .f32 0x3F4C422A#32 ((Real.sqrt (2 * Real.pi⁻¹) : ℝ) : EReal)
  ∧ IdealRules.named_const.Statement Cert.KernelIdeal.κ "kc3" .f32 0x3DDB33B6#32 (((3 * (Real.sqrt (2 * Real.pi⁻¹))) * (8943 / 200000) : ℝ) : EReal)

def preserves_Reference_ReferenceIdeal : Prop :=
  IdealRules.named_const.Statement Cert.ReferenceIdeal.κ "c" .f32 0x3D372713#32 ((8943 / 200000 : ℝ) : EReal)
  ∧ IdealRules.named_const.Statement Cert.ReferenceIdeal.κ "k" .f32 0x3F4C422A#32 ((Real.sqrt (2 * Real.pi⁻¹) : ℝ) : EReal)
  ∧ IdealRules.named_const.Statement Cert.ReferenceIdeal.κ "c3" .f32 0x3E095D4F#32 ((26829 / 200000 : ℝ) : EReal)

def algebraic_KernelIdeal_ReferenceIdeal_pre_history_in_f32 [hKernelIdeal : Cert.KernelIdeal.Facts] [hReferenceIdeal : Cert.ReferenceIdeal.Facts] [hPre_history_in_f32 : Cert.Pre_history_in_f32.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_history_in_f32 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)) (v3 : (c : Dev Cert.KernelIdeal.nD) → Buf (Elt Ideal) ((c.tc : Thread Cert.KernelIdeal.nD Cert.KernelIdeal.τ).loc Cert.KernelIdeal.main_v23)) (v4 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_v34) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_0) = v0 c
          ∧ r.2.mem ((c.tc : Thread Cert.ReferenceIdeal.nD Cert.ReferenceIdeal.τ).loc Cert.ReferenceIdeal.main_v19_1) = v1 c
          ∧ r.2.mem ((c.tc : Thread Cert.ReferenceIdeal.nD Cert.ReferenceIdeal.τ).loc Cert.ReferenceIdeal.main_v19_2) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hPre_history_in_f32 : Cert.Pre_history_in_f32.Facts),
    quiescent_Kernel (hKernel := hKernel)
    ∧ quiescent_KernelIdeal (hKernelIdeal := hKernelIdeal)
    ∧ quiescent_KernelIdeal_pre_history_in_f32 (hKernelIdeal := hKernelIdeal) (hPre_history_in_f32 := hPre_history_in_f32)
    ∧ quiescent_ReferenceIdeal (hReferenceIdeal := hReferenceIdeal)
    ∧ quiescent_ReferenceIdeal_pre_history_in_f32 (hReferenceIdeal := hReferenceIdeal) (hPre_history_in_f32 := hPre_history_in_f32)
    ∧ quiescent_Reference (hReference := hReference)
    ∧ preserves_Kernel_KernelIdeal
    ∧ preserves_Reference_ReferenceIdeal
    ∧ algebraic_KernelIdeal_ReferenceIdeal_pre_history_in_f32 (hKernelIdeal := hKernelIdeal) (hReferenceIdeal := hReferenceIdeal) (hPre_history_in_f32 := hPre_history_in_f32)
-- ==== Pre_history_in_f32.lean ====
abbrev S35840x5504 : Shape := ⟨2, ![35840, 5504]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S35840x5504 .bf16) (main_arg1 : FVec F S35840x5504 .bf16) (main_arg2 : FVec F S16 .f32) : IVec S16 1 :=
  let main_v0 : FVec F S16 .f32 := Host.absf main_arg2
  let main_cst : FVec F S_ .f32 := constant S_ .f32 0x7F7FFFFF#32
  let main_v1 : FVec F S16 .f32 := broadcastInDim S16 ![] bcast_S_S16 main_cst
  let main_v2 : IVec S16 1 := cmpf .ole main_v0 main_v1
  let main_cst_0 : FVec F S_ .f32 := constant S_ .f32 0x7F800000#32
  let main_v3 : FVec F S16 .f32 := broadcastInDim S16 ![] bcast_S_S16 main_cst_0
  let main_v4 : IVec S16 1 := cmpf .oeq main_v0 main_v3
  let main_v5 : IVec S16 1 := ori main_v2 main_v4
  main_v5
-- ==== Kernel.lean ====
abbrev S35840x5504 : Shape := ⟨2, ![35840, 5504]⟩
abbrev S16 : Shape := ⟨1, ![16]⟩
abbrev S_ : Shape := ⟨0, ![]⟩
abbrev S254 : Shape := ⟨1, ![254]⟩
abbrev S1 : Shape := ⟨1, ![1]⟩
abbrev S8x5504 : Shape := ⟨2, ![8, 5504]⟩
abbrev S5504x35840 : Shape := ⟨2, ![5504, 35840]⟩
abbrev S8x128 : Shape := ⟨2, ![8, 128]⟩
abbrev S512x5504 : Shape := ⟨2, ![512, 5504]⟩
abbrev S5504x512 : Shape := ⟨2, ![5504, 512]⟩
abbrev S32x128 : Shape := ⟨2, ![32, 128]⟩
abbrev S4x8x128 : Shape := ⟨3, ![4, 8, 128]⟩
abbrev S512x128 : Shape := ⟨2, ![512, 128]⟩
abbrev S128x512 : Shape := ⟨2, ![128, 512]⟩
abbrev S5504 : Shape := ⟨1, ![5504]⟩
abbrev S15 : Shape := ⟨1, ![15]⟩

abbrev nBuf : Space → Nat
  | .hbm => 62
  | .vmem => 10
  | .smem => 1
  | _ => 0

abbrev bufTy : (tb : Table) → Fin (tcTables nBuf tb) → BufTy
  | .hbm, ⟨0, _⟩ => ⟨S35840x5504, .bf16⟩
  | .hbm, ⟨1, _⟩ => ⟨S35840x5504, .bf16⟩
  | .hbm, ⟨2, _⟩ => ⟨S16, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S254, .i32⟩
  | .hbm, ⟨8, _⟩ => ⟨S_, .i32⟩
  | .hbm, ⟨9, _⟩ => ⟨S254, .i32⟩
  | .hbm, ⟨10, _⟩ => ⟨S254, .i32⟩
  | .hbm, ⟨11, _⟩ => ⟨S_, .i32⟩
  | .hbm, ⟨12, _⟩ => ⟨S254, .i32⟩
  | .hbm, ⟨13, _⟩ => ⟨S254, .i32⟩
  | .hbm, ⟨14, _⟩ => ⟨S254, .f32⟩
  | .hbm, ⟨15, _⟩ => ⟨S_, .f32⟩
  | .hbm, ⟨16, _⟩ => ⟨S254, .f32⟩
  | .hbm, ⟨17, _⟩ => ⟨S254, .i1⟩
  | .hbm, ⟨18, _⟩ => ⟨S254, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S1, .f32⟩
  | .hbm, ⟨48, _⟩ => ⟨S8x5504, .f32⟩
  | .hbm, ⟨49, _⟩ => ⟨S35840x5504, .fp8e5m2⟩
  | .hbm, ⟨50, _⟩ => ⟨S5504x35840, .fp8e5m2⟩
  | .hbm, ⟨51, _⟩ => ⟨S8x128, .f32⟩
  | .hbm, ⟨52, _⟩ => ⟨S_, .f32⟩
  | .hbm, ⟨53, _⟩ => ⟨S5504, .f32⟩
  | .hbm, ⟨54, _⟩ => ⟨S_, .f32⟩
  | .hbm, ⟨55, _⟩ => ⟨S_, .f32⟩
  | .hbm, ⟨56, _⟩ => ⟨S1, .f32⟩
  | .hbm, ⟨57, _⟩ => ⟨S15, .f32⟩
  | .hbm, ⟨58, _⟩ => ⟨S16, .f32⟩
  | .hbm, ⟨59, _⟩ => ⟨S_, .i32⟩
  | .hbm, ⟨60, _⟩ => ⟨S1, .i32⟩
  | .hbm, ⟨61, _⟩ => ⟨S16, .f32⟩
  | .local _ .vmem, ⟨0, _⟩ => ⟨S512x5504, .bf16⟩
  | .local _ .vmem, ⟨1, _⟩ => ⟨S512x5504, .bf16⟩
  | .local _ .vmem, ⟨2, _⟩ => ⟨S512x5504, .bf16⟩
  | .local _ .vmem, ⟨3, _⟩ => ⟨S512x5504, .bf16⟩
  | .local _ .vmem, ⟨4, _⟩ => ⟨S8x5504, .f32⟩
  | .local _ .vmem, ⟨5, _⟩ => ⟨S512x5504, .fp8e5m2⟩
  | .local _ .vmem, ⟨6, _⟩ => ⟨S512x5504, .fp8e5m2⟩
  | .local _ .vmem, ⟨7, _⟩ => ⟨S5504x512, .fp8e5m2⟩
  | .local _ .vmem, ⟨8, _⟩ => ⟨S5504x512, .fp8e5m2⟩
  | .local _ .vmem, ⟨9, _⟩ => ⟨S8x128, .f32⟩
  | .local _ .smem, ⟨0, _⟩ => ⟨S1, .f32⟩
  | _, _ => ⟨S35840x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_c_6 : Ref sig .tc := ⟨.hbm, 29, rfl⟩
abbrev main_call0_v0 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_c_8 : Ref sig .tc := ⟨.hbm, 34, rfl⟩
abbrev main_v20 : Ref sig .tc := ⟨.hbm, 35, rfl⟩
abbrev main_c_9 : Ref sig .tc := ⟨.hbm, 36, rfl⟩
abbrev main_v21 : Ref sig .tc := ⟨.hbm, 37, rfl⟩
abbrev main_c_10 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_11 : Ref sig .tc := ⟨.hbm, 42, rfl⟩
abbrev main_v25 : Ref sig .tc := ⟨.hbm, 43, rfl⟩
abbrev main_c_12 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v29_2 : Ref sig .tc := ⟨.hbm, 50, rfl⟩
abbrev main_v29_3 : Ref sig .tc := ⟨.hbm, 51, rfl⟩
abbrev main_cst_13 : Ref sig .tc := ⟨.hbm, 52, rfl⟩
abbrev main_v30 : Ref sig .tc := ⟨.hbm, 53, rfl⟩
abbrev main_cst_14 : Ref sig .tc := ⟨.hbm, 54, rfl⟩
abbrev main_v31 : Ref sig .tc := ⟨.hbm, 55, rfl⟩
abbrev main_call2_v0 : Ref sig .tc := ⟨.hbm, 56, rfl⟩
abbrev main_call2_v1 : Ref sig .tc := ⟨.hbm, 57, rfl⟩
abbrev main_v32 : Ref sig .tc := ⟨.hbm, 58, rfl⟩
abbrev main_c_15 : Ref sig .tc := ⟨.hbm, 59, rfl⟩
abbrev main_v33 : Ref sig .tc := ⟨.hbm, 60, rfl⟩
abbrev main_v34 : Ref sig .tc := ⟨.hbm, 61, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![70], ![false]⟩

@[reducible] def k0_t1_loop : Scf.Loop 32 :=
  let c0_i32_1 : BitVec 32 := 0#32
  let c43_i32 : BitVec 32 := 43#32
  let v4 : BitVec 32 := Scalar.addi c0_i32_1 c43_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  v5
def k0_off1 (k0_t1 : Fin k0_t1_loop.trips) : Fin 2 → Nat :=
  let c0_3 : Index := 0#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v7 : Index := Scalar.indexCast v6
  ![0, v7.toNat]
def k0_off2 (k0_t1 : Fin k0_t1_loop.trips) : Fin 2 → Nat :=
  let c0_6 : Index := 0#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v12 : Index := Scalar.indexCast v6
  ![0, v12.toNat]
def k0_off3 (k0_t1 : Fin k0_t1_loop.trips) : Fin 2 → Nat :=
  let c32 : Index := 32#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v56 : Index := Scalar.indexCast v6
  ![32, v56.toNat]
def k0_off4 (k0_t1 : Fin k0_t1_loop.trips) : Fin 2 → Nat :=
  let c64 : Index := 64#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v100 : Index := Scalar.indexCast v6
  ![64, v100.toNat]
def k0_off5 (k0_t1 : Fin k0_t1_loop.trips) : Fin 2 → Nat :=
  let c96 : Index := 96#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v144 : Index := Scalar.indexCast v6
  ![96, v144.toNat]
def k0_off6 (k0_t1 : Fin k0_t1_loop.trips) : Fin 2 → Nat :=
  let c128 : Index := 128#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v188 : Index := Scalar.indexCast v6
  ![128, v188.toNat]
def k0_off7 (k0_t1 : Fin k0_t1_loop.trips) : Fin 2 → Nat :=
  let c160 : Index := 160#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v232 : Index := Scalar.indexCast v6
  ![160, v232.toNat]
def k0_off8 (k0_t1 : Fin k0_t1_loop.trips) : Fin 2 → Nat :=
  let c192 : Index := 192#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v276 : Index := Scalar.indexCast v6
  ![192, v276.toNat]
def k0_off9 (k0_t1 : Fin k0_t1_loop.trips) : Fin 2 → Nat :=
  let c224 : Index := 224#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v320 : Index := Scalar.indexCast v6
  ![224, v320.toNat]
def k0_off10 (k0_t1 : Fin k0_t1_loop.trips) : Fin 2 → Nat :=
  let c256 : Index := 256#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v364 : Index := Scalar.indexCast v6
  ![256, v364.toNat]
def k0_off11 (k0_t1 : Fin k0_t1_loop.trips) : Fin 2 → Nat :=
  let c288 : Index := 288#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v408 : Index := Scalar.indexCast v6
  ![288, v408.toNat]
def k0_off12 (k0_t1 : Fin k0_t1_loop.trips) : Fin 2 → Nat :=
  let c320 : Index := 320#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v452 : Index := Scalar.indexCast v6
  ![320, v452.toNat]
def k0_off13 (k0_t1 : Fin k0_t1_loop.trips) : Fin 2 → Nat :=
  let c352 : Index := 352#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v496 : Index := Scalar.indexCast v6
  ![352, v496.toNat]
def k0_off14 (k0_t1 : Fin k0_t1_loop.trips) : Fin 2 → Nat :=
  let c384 : Index := 384#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v540 : Index := Scalar.indexCast v6
  ![384, v540.toNat]
def k0_off15 (k0_t1 : Fin k0_t1_loop.trips) : Fin 2 → Nat :=
  let c416 : Index := 416#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v584 : Index := Scalar.indexCast v6
  ![416, v584.toNat]
def k0_off16 (k0_t1 : Fin k0_t1_loop.trips) : Fin 2 → Nat :=
  let c448 : Index := 448#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v628 : Index := Scalar.indexCast v6
  ![448, v628.toNat]
def k0_off17 (k0_t1 : Fin k0_t1_loop.trips) : Fin 2 → Nat :=
  let c480 : Index := 480#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v672 : Index := Scalar.indexCast v6
  ![480, v672.toNat]
def k0_off18 (k0_t1 : Fin k0_t1_loop.trips) : Fin 2 → Nat :=
  let c0_233 : Index := 0#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v719 : Index := Scalar.indexCast v6
  ![0, v719.toNat]
def k0_off19 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v723 : Index := Scalar.indexCast v6
  let c0_234 : Index := 0#32
  ![v723.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5504 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x5504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5504 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5504x512 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "k" => some ((Real.sqrt (2 * Real.pi⁻¹) : ℝ) : EReal)
  | "kc" => some (((Real.sqrt (2 * Real.pi⁻¹)) * (8943 / 200000) : ℝ) : EReal)
  | "kc3" => some (((3 * (Real.sqrt (2 * Real.pi⁻¹))) * (8943 / 200000) : ℝ) : EReal)
  | _ => none
-- ==== ReferenceIdeal.lean ====
variable {F : FTy → Type} [FloatOps F] [Named F]
def κ : String → Option EReal := fun
  | "c" => some ((8943 / 200000 : ℝ) : EReal)
  | "c3" => some ((26829 / 200000 : ℝ) : EReal)
  | "k" => some ((Real.sqrt (2 * Real.pi⁻¹) : ℝ) : EReal)
  | _ => none
-- ==== Reference.lean ====
abbrev S35840x5504 : Shape := ⟨2, ![35840, 5504]⟩
abbrev S16 : Shape := ⟨1, ![16]⟩
abbrev S_ : Shape := ⟨0, ![]⟩
abbrev S1 : Shape := ⟨1, ![1]⟩
abbrev S5504 : Shape := ⟨1, ![5504]⟩
abbrev S5504x35840 : Shape := ⟨2, ![5504, 35840]⟩
abbrev S1x35840x5504 : Shape := ⟨3, ![1, 35840, 5504]⟩
abbrev S1x1x1 : Shape := ⟨3, ![1, 1, 1]⟩
abbrev S15 : Shape := ⟨1, ![15]⟩

abbrev nBuf : Space → Nat
  | .hbm => 49
  | .vmem => 5
  | .smem => 2
  | _ => 0

abbrev bufTy : (tb : Table) → Fin (tcTables nBuf tb) → BufTy
  | .hbm, ⟨0, _⟩ => ⟨S35840x5504, .bf16⟩
  | .hbm, ⟨1, _⟩ => ⟨S35840x5504, .bf16⟩
  | .hbm, ⟨2, _⟩ => ⟨S16, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .i1⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S5504, .f32⟩
  | .hbm, ⟨35, _⟩ => ⟨S35840x5504, .fp8e5m2⟩
  | .hbm, ⟨36, _⟩ => ⟨S5504x35840, .fp8e5m2⟩
  | .hbm, ⟨37, _⟩ => ⟨S1, .f32⟩
  | .hbm, ⟨38, _⟩ => ⟨S1, .f32⟩
  | .hbm, ⟨39, _⟩ => ⟨S15, .f32⟩
  | .hbm, ⟨40, _⟩ => ⟨S16, .f32⟩
  | .hbm, ⟨41, _⟩ => ⟨S_, .f32⟩
  | .hbm, ⟨42, _⟩ => ⟨S_, .i32⟩
  | .hbm, ⟨43, _⟩ => ⟨S1, .i32⟩
  | .hbm, ⟨44, _⟩ => ⟨S16, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S35840x5504, .bf16⟩
  | .local _ .vmem, ⟨1, _⟩ => ⟨S35840x5504, .bf16⟩
  | .local _ .vmem, ⟨2, _⟩ => ⟨S5504, .f32⟩
  | .local _ .vmem, ⟨3, _⟩ => ⟨S35840x5504, .fp8e5m2⟩
  | .local _ .vmem, ⟨4, _⟩ => ⟨S5504x35840, .fp8e5m2⟩
  | .local _ .smem, ⟨0, _⟩ => ⟨S1, .f32⟩
  | .local _ .smem, ⟨1, _⟩ => ⟨S1, .f32⟩
  | _, _ => ⟨S35840x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_cst_5 : Ref sig .tc := ⟨.hbm, 20, rfl⟩
abbrev main_call0_v0 : Ref sig .tc := ⟨.hbm, 21, rfl⟩
abbrev main_v11 : Ref sig .tc := ⟨.hbm, 22, rfl⟩
abbrev main_cst_6 : Ref sig .tc := ⟨.hbm, 23, rfl⟩
abbrev main_v12 : Ref sig .tc := ⟨.hbm, 24, rfl⟩
abbrev main_cst_7 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_cst_8 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v19_3 : Ref sig .tc := ⟨.hbm, 37, rfl⟩
abbrev main_call2_v0 : Ref sig .tc := ⟨.hbm, 38, rfl⟩
abbrev main_call2_v1 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_cst_9 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S35840x5504 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S35840x5504 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S35840x5504 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5504x35840 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Pay.lean ====
module

public import proofs.«01_k».proof.Proof.Gen.KernelIdeal.Loops
public import proofs.«01_k».proof.Proof.Gen.KernelIdeal.Frame
public import Idealize.ShloMosaic.Lib.Pointwise
public import Idealize.ShloMosaic.Lib.Pipeline.ValueKit
public import Idealize.ShloMosaic.Lib.ValueIdx
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

/-- One element of the gradient the kernel forms: from the pre-activation `x` and the incoming gradient `g`. -/
def dval (x g : EReal) : EReal :=
  let c (b : BitVec 32) : EReal := Scalar.ofBits (F := Ideal) .f32 b
  let k : EReal := Named.named (F := Ideal) (φ := .f32) κ "k" 0x3F4C422A#32
  let t : EReal := Ideal.tanh (x * (k + Named.named (F := Ideal) (φ := .f32) κ "kc" 0x3D122279#32 * (x * x)))
  c 0x3F000000#32 * g * ((c 0x3F800000#32 + t)
    * (c 0x3F800000#32 + x * (k + Named.named (F := Ideal) (φ := .f32) κ "kc3" 0x3DDB33B6#32 * (x * x)) * (c 0x3F800000#32 - t)))

theorem pay5_at (x g : Vec Ideal S32x128 .bf16) (j : S32x128.Idx) : k0_pay5 (F := Ideal) x g j = dval (x j) (g j) := by
  unfold k0_pay5 dval
  pointwise

/-- The magnitude of an element. -/
def aval (d : EReal) : EReal := FloatOps.absf (F := Ideal) (φ := .f32) d

/-- One stored code: the element times the inverse scale, clipped to the codes' range. -/
def qval (d inv : EReal) : EReal :=
  min (max (d * inv) (Scalar.ofBits (F := Ideal) .f32 0xC7600000#32)) (Scalar.ofBits (F := Ideal) .f32 0x47600000#32)

theorem pay10_at (x g : Vec Ideal S32x128 .bf16) (v : Elt Ideal .f32) (j : S32x128.Idx) :
    k0_pay10 (F := Ideal) (k0_pay5 x g) (k0_pay9 v) j = qval (dval (x j) (g j)) v := by
  rw [← pay5_at]
  unfold k0_pay10 k0_pay9 qval
  pointwise

theorem pay4_at (v : Vec Ideal S512x128 .fp8e5m2) (c : Fin 128) (r : Fin 512) :
    k0_pay4 (F := Ideal) v (ix2 c r) = v (ix2 r c) := by
  pointwise [k0_pay4]

theorem pay13_at (a : Vec Ideal S8x128 .f32) (x g : Vec Ideal S32x128 .bf16) (s : Fin 8) (l : Fin 128) :
    k0_pay13 (F := Ideal) a x g (ix2 s l) = a (ix2 s l)
      + ∑ u : Fin 4, dval (x (ix2 ⟨u.val * 8 + s.val, by omega⟩ l)) (g (ix2 ⟨u.val * 8 + s.val, by omega⟩ l)) := by
  change _ = a (ix2 s l) + ∑ u : Fin 4, k0_pay5 (F := Ideal) x g (ix2 ⟨u.val * 8 + s.val, by omega⟩ l)
  pointwise [k0_pay13, k0_pay12]
  rfl

theorem pay14_at (a : Vec Ideal S8x128 .f32) (x g : Vec Ideal S32x128 .bf16) (s : Fin 8) (l : Fin 128) (z : EReal) :
    k0_pay14 (F := Ideal) a x g (ix2 s l) ≤ z ↔ a (ix2 s l) ≤ z ∧
      ∀ u : Fin 4, aval (dval (x (ix2 ⟨u.val * 8 + s.val, by omega⟩ l)) (g (ix2 ⟨u.val * 8 + s.val, by omega⟩ l))) ≤ z := by
  have e : k0_pay14 (F := Ideal) a x g (ix2 s l) = max (a (ix2 s l)) (Finset.fold max (⊥ : EReal)
      (fun u : Fin 4 => aval (dval (x (ix2 ⟨u.val * 8 + s.val, by omega⟩ l)) (g (ix2 ⟨u.val * 8 + s.val, by omega⟩ l)))) Finset.univ) := by
    have hb : Ideal.ofBits FTy.f32 4286578688#32 = (⊥ : EReal) := by simp [Ideal.ofBits, Ideal.ieee]
    pointwise [k0_pay14, k0_pay12]
    rw [hb]
    rfl
  rw [e, max_le_iff, Finset.fold_max_le]
  simp

/-- The first chunk's share of the sums is taken as a later one's. -/
theorem pay7_eq (a : Vec Ideal S8x128 .f32) (x g : Vec Ideal S32x128 .bf16) : k0_pay7 (F := Ideal) a x g = k0_pay13 a x g := by
  unfold k0_pay7
  dsimp only
  rw [shapeCast_self]
  rfl

/-- The first chunk's share of the maxima is taken as a later one's. -/
theorem pay8_eq (a : Vec Ideal S8x128 .f32) (x g : Vec Ideal S32x128 .bf16) : k0_pay8 (F := Ideal) a x g = k0_pay14 a x g := by
  unfold k0_pay8
  dsimp only
  rw [shapeCast_self]
  rfl

end Cert.KernelIdeal.Hand
-- ==== Proof.RValue.lean ====
module

public import proofs.«01_k».proof.Proof.Gen.ReferenceIdeal.Frame
public import Idealize.ShloMosaic.Lib.Pipeline.ValueKit
public import Idealize.ShloMosaic.Lib.Pipeline.ReadBack

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-- The largest entry of the history. -/
def histMax (h : FVec Ideal S16 .f32) : FVec Ideal S_ .f32 := Host.reduce FloatOps.maximumf h (constant S_ .f32 0xFF800000#32) reducesTo_S16_S_d0 h_S_

/-- The magnitude whose exponent is taken. -/
def ratio (h : FVec Ideal S16 .f32) : FVec Ideal S_ .f32 := Host.absf (mulf (histMax h) (constant S_ .f32 0x37924925#32))

/-- The exponent of the scale, by the logarithm. -/
def expo (h : FVec Ideal S16 .f32) : FVec Ideal S_ .f32 :=
  select (cmpf .oeq (histMax h) (constant S_ .f32 0x00000000#32)) (constant S_ .f32 0x00000000#32)
    (select (ori (cmpf .olt (ratio h) (constant S_ .f32 0x00800000#32)) (cmpf .oeq (ratio h) (constant S_ .f32 0x7F800000#32)))
      (constant S_ .f32 0x00000000#32)
      (addf (Host.floor (Host.divf (Host.log (ratio h)) (Host.log (constant S_ .f32 0x40000000#32)))) (constant S_ .f32 0x3F800000#32)))

/-- The power of two. -/
def pow2 (e : FVec Ideal S_ .f32) : FVec Ideal S_ .f32 := Host.exp (mulf e (Host.log (constant S_ .f32 0x40000000#32)))

/-- The history moved on by one place, with a new first entry. -/
def newHist (h : FVec Ideal S16 .f32) (a : FVec Ideal S_ .f32) : FVec Ideal S16 .f32 :=
  Host.scatter scatter_S16_S1_S__n_0_0_0 (fun _ b => b)
    (concatenate S16 0 [⟨S1, extractStridedSlice S1 ![15] h slices_S16_S1_15⟩, ⟨S15, extractStridedSlice S15 ![0] h slices_S16_S15_0⟩] concatenates_S1_S15_S16_d0)
    (broadcastInDim S1 ![] bcast_S_S1 (constantI S_ 32 0#32)) a

theorem pre_v13 (W : Valuation τ sig (Elt Ideal)) : StableHlo.after (List.flatten [hostOps0 (F := Ideal), hostOps0_1, hostOps0_2, hostOps0_3, hostOps0_4]) W (Proc.devRef .tc main_v13)
    = expo (W (Proc.devRef .tc main_arg2)) := by
  unfold hostOps0 hostOps0_1 hostOps0_2 hostOps0_3 hostOps0_4
  simp only [List.flatten_cons, List.flatten_nil, List.cons_append, List.nil_append]
  after_results
  simp only [StableHlo.TRef.ofBuf_toBuf]
  rfl

theorem pre_v18 (W : Valuation τ sig (Elt Ideal)) : StableHlo.after (List.flatten [hostOps0 (F := Ideal), hostOps0_1, hostOps0_2, hostOps0_3, hostOps0_4]) W (Proc.devRef .tc main_v18)
    = shapeCast S1 (pow2 (Host.negf (expo (W (Proc.devRef .tc main_arg2))))) shapeCasts_S_S1 := by
  unfold hostOps0 hostOps0_1 hostOps0_2 hostOps0_3 hostOps0_4
  simp only [List.flatten_cons, List.flatten_nil, List.cons_append, List.nil_append]
  after_results
  simp only [StableHlo.TRef.ofBuf_toBuf]
  rfl

theorem tail_v23 (W : Valuation τ sig (Elt Ideal)) : StableHlo.after (List.flatten [hostOps1 (F := Ideal), hostOps1_1]) W (Proc.devRef .tc main_v23)
    = newHist (W (Proc.devRef .tc main_arg2)) (shapeCast S_ (W (Proc.devRef .tc main_v19_3)) shapeCasts_S1_S_) := by
  unfold hostOps1 hostOps1_1
  simp only [List.flatten_cons, List.flatten_nil, List.cons_append, List.nil_append]
  after_results
  simp only [StableHlo.TRef.ofBuf_toBuf]
  rfl

theorem tail_v26 (W : Valuation τ sig (Elt Ideal)) : StableHlo.after (List.flatten [hostOps1 (F := Ideal), hostOps1_1]) W (Proc.devRef .tc main_v26)
    = pow2 (W (Proc.devRef .tc main_v13)) := by
  unfold hostOps1 hostOps1_1
  simp only [List.flatten_cons, List.flatten_nil, List.cons_append, List.nil_append]
  after_results
  rfl

/-! ## The arrays after the one call -/

abbrev Garr (c : Dev nD) : FVec Ideal S35840x5504 .bf16 := m ((c : Thread nD τ).loc main_arg0)
abbrev Xarr (c : Dev nD) : FVec Ideal S35840x5504 .bf16 := m ((c : Thread nD τ).loc main_arg1)
abbrev Harr (c : Dev nD) : FVec Ideal S16 .f32 := m ((c : Thread nD τ).loc main_arg2)

/-- The factor the gradient is multiplied by. -/
def invR (c : Dev nD) : EReal := pow2 (Host.negf (expo (Harr m c))) (Shape.Idx.first h_S_)

theorem V_v18 (c : Dev nD) (j : S1.Idx) : (V m c main_v18 : S1.Idx → EReal) j = invR m c := by
  show StableHlo.after (List.flatten [hostOps0 (F := Ideal), hostOps0_1, hostOps0_2, hostOps0_3, hostOps0_4]) (fun b => m (c, b)) (Proc.devRef .tc main_v18) j = _
  rw [pre_v18]
  unfold invR shapeCast
  exact congrArg _ (Subsingleton.elim (α := S_.Idx) _ _)

theorem idx : ∀ t : Fin cfg0.N, win0_0.index t = ![0] ∧ win0_1.index t = ![0, 0] ∧ win0_2.index t = ![0, 0] :=
  (by decide +kernel : ∀ t : Fin grid0.N, _)

/-- The one block of an input is the whole array. -/
theorem blk1 (c : Dev nD) (t : Fin cfg0.N) : iblk m c 1 t = Garr m c := by
  funext j
  unfold iblk
  show V m c main_arg0 (((cfg0.win 1).blk t).view.emb j) = _
  rw [V_main_arg0]
  blk_ext [(idx t).2.1]

theorem blk2 (c : Dev nD) (t : Fin cfg0.N) : iblk m c 2 t = Xarr m c := by
  funext j
  unfold iblk
  show V m c main_arg1 (((cfg0.win 2).blk t).view.emb j) = _
  rw [V_main_arg1]
  blk_ext [(idx t).2.2]

theorem blk0 (c : Dev nD) (t : Fin cfg0.N) (j) : iblk m c 0 t j = invR m c := by
  unfold iblk
  exact V_v18 m c _

theorem final3 (c : Dev nD) : (dats m 0 c).arrAt 3 (cfgs 0).N = k0_pay5 (F := Ideal) (Garr m c) (Xarr m c) := by
  refine (dats m 0 c).arrAt_eq_of_after_last 3 t0_0 (by decide +kernel) _ fun j => ?_
  blk_simp
  rw [after0_3]
  unfold outsAt0
  frame_out
  rw [read_unread_whole, read_unread_whole, blk1, blk2]

theorem final4 (c : Dev nD) : (dats m 0 c).arrAt 4 (cfgs 0).N = k0_pay1 (k0_pay6 (F := Ideal) (Garr m c) (Xarr m c) (invR m c)) := by
  refine (dats m 0 c).arrAt_eq_of_after_last 4 t0_0 (by decide +kernel) _ fun j => ?_
  blk_simp
  rw [after0_4]
  frame_out
  rw [read_unread_whole, read_unread_whole, read_unread_whole, blk1, blk2, blk0]

theorem final5 (c : Dev nD) : (dats m 0 c).arrAt 5 (cfgs 0).N = k0_pay2 (k0_pay4 (F := Ideal) (Garr m c) (Xarr m c)) (invR m c) := by
  refine (dats m 0 c).arrAt_eq_of_after_last 5 t0_0 (by decide +kernel) _ fun j => ?_
  blk_simp
  rw [after0_5]
  frame_out
  rw [read_unread_whole, read_unread_whole, read_unread_whole, blk1, blk2, blk0]

theorem final6 (c : Dev nD) : (dats m 0 c).arrAt 6 (cfgs 0).N = fun _ => k0_pay3 (k0_pay4 (F := Ideal) (Garr m c) (Xarr m c)) := by
  refine (dats m 0 c).arrAt_eq_of_after_last 6 t0_0 (by decide +kernel) _ fun j => ?_
  blk_simp
  rw [after0_6]
  frame_out
  rw [read_unread_whole, read_unread_whole, blk1, blk2]

/-! ## The payloads at an index -/

/-- One element of the gradient, as the reference writes it. -/
def dref (x g : EReal) : EReal :=
  let c (b : BitVec 32) : EReal := Scalar.ofBits (F := Ideal) .f32 b
  let k : EReal := Named.named (F := Ideal) (φ := .f32) κ "k" 0x3F4C422A#32
  let t : EReal := Ideal.tanh (k * (x + Named.named (F := Ideal) (φ := .f32) κ "c" 0x3D372713#32 * x * x * x))
  g * (c 0x3F000000#32 * (c 0x3F800000#32 + t)
    + c 0x3F000000#32 * x * (c 0x3F800000#32 - t * t) * k * (c 0x3F800000#32 + Named.named (F := Ideal) (φ := .f32) κ "c3" 0x3E095D4F#32 * x * x))

theorem pay4_at (g x : Vec Ideal S35840x5504 .bf16) (j : S35840x5504.Idx) : k0_pay4 (F := Ideal) g x j = dref (x j) (g j) := by
  unfold k0_pay4 dref
  pointwise

theorem pay5_at (g x : Vec Ideal S35840x5504 .bf16) (q : Fin 5504) :
    k0_pay5 (F := Ideal) g x (ix1 q) = ∑ r : Fin 35840, dref (x (ix2 r q)) (g (ix2 r q)) := by
  simp only [← pay4_at]
  pointwise [k0_pay5]

/-- One stored code. -/
def qref (d inv : EReal) : EReal :=
  min (Scalar.ofBits (F := Ideal) .f32 0x47600000#32) (max (Scalar.ofBits (F := Ideal) .f32 0xC7600000#32) (d * inv))

theorem pay1_at (g x : Vec Ideal S35840x5504 .bf16) (v : Elt Ideal .f32) (j : S35840x5504.Idx) :
    k0_pay1 (F := Ideal) (k0_pay6 g x v) j = qref (dref (x j) (g j)) v := by
  rw [← pay4_at]
  unfold k0_pay1 k0_pay6 qref
  pointwise

theorem pay2_at (d : FVec Ideal S35840x5504 .f32) (v : Elt Ideal .f32) (q : Fin 5504) (r : Fin 35840) :
    k0_pay2 (F := Ideal) d v (ix2 q r) = qref (d (ix2 r q)) v := by
  unfold k0_pay2 qref
  pointwise

/-- What bounds the greatest magnitude. -/
theorem pay3_le (d : FVec Ideal S35840x5504 .f32) (z : EReal) :
    (k0_pay3 (F := Ideal) d : EReal) ≤ z ↔ ∀ (r : Fin 35840) (q : Fin 5504), (FloatOps.absf (F := Ideal) (φ := .f32) (d (ix2 r q)) : EReal) ≤ z := by
  unfold k0_pay3
  pointwise
  have hb : Ideal.ofBits FTy.f32 4286578688#32 = (⊥ : EReal) := by simp [Ideal.ofBits, Ideal.ieee]
  rw [hb, Finset.fold_max_le]
  simp

/-! ## The run -/

theorem arr_inj : Function.Injective (Pipeline.arrRef spec0) := by decide

theorem shapeCast_const (z : EReal) : shapeCast S_ (fun _ => z : FVec Ideal S1 .f32) shapeCasts_S1_S_ = fun _ => z := rfl

theorem out_v23 (c : Dev nD) : Pipeline.afterTail₀ cfgs (dats m) 0 (V0 m) [hostOps1, hostOps1_1] c main_v23
    = newHist (Harr m c) (fun _ => k0_pay3 (k0_pay4 (F := Ideal) (Garr m c) (Xarr m c))) := by
  unfold Pipeline.afterTail₀
  rw [tail_v23, Pipeline.withArrays_of_ne _ c (V0 m c) _ main_arg2 (by exact (by decide : ∀ w, Pipeline.arrRef spec0 w ≠ main_arg2))]
  have e := (Pipeline.withArrays_arr spec0 arr_inj c (V0 m c) (fun w => (dats m 0 c).arrAt w (cfgs 0).N) 6).trans (final6 m c)
  refine congrArg₂ newHist (V_main_arg2 m c) ?_
  exact (congrArg (fun a : FVec Ideal S1 .f32 => shapeCast S_ a shapeCasts_S1_S_) e).trans (shapeCast_const _)

theorem out_v26 (c : Dev nD) : Pipeline.afterTail₀ cfgs (dats m) 0 (V0 m) [hostOps1, hostOps1_1] c main_v26 = pow2 (expo (Harr m c)) := by
  unfold Pipeline.afterTail₀
  rw [tail_v26, Pipeline.withArrays_of_ne _ c (V0 m c) _ main_v13 (by exact (by decide : ∀ w, Pipeline.arrRef spec0 w ≠ main_v13))]
  exact congrArg pow2 (pre_v13 (fun b => m (c, b)))

variable (ρ : Dev nD → PrngReg)

/-- The reference's run, its five results named. -/
theorem run_values : θ_run defs (onTc (τ := τ) (main (F := Ideal))) ⟨m, fun _ => 0, ρ⟩ (fun r => ∀ c : Dev nD,
      r.2.mem ((c.tc : Thread nD τ).loc main_v19_0) = k0_pay5 (F := Ideal) (Garr m c) (Xarr m c)
      ∧ r.2.mem ((c.tc : Thread nD τ).loc main_v19_1) = k0_pay1 (k0_pay6 (F := Ideal) (Garr m c) (Xarr m c) (invR m c))
      ∧ r.2.mem ((c.tc : Thread nD τ).loc main_v19_2) = k0_pay2 (k0_pay4 (F := Ideal) (Garr m c) (Xarr m c)) (invR m c)
      ∧ r.2.mem ((c.tc : Thread nD τ).loc main_v26) = pow2 (expo (Harr m c))
      ∧ r.2.mem ((c.tc : Thread nD τ).loc main_v23) = newHist (Harr m c) (fun _ => k0_pay3 (k0_pay4 (F := Ideal) (Garr m c) (Xarr m c)))) :=
  (θ_run defs _ _).mono (fun _ h c => ⟨
    ((h c).1 3).trans (final3 m c),
    ((h c).1 4).trans (final4 m c),
    ((h c).1 5).trans (final5 m c),
    ((h c).2 main_v26 (Pipeline.mem_restRefs_of main_v26 (by decide) (by decide))).trans (out_v26 m c),
    ((h c).2 main_v23 (Pipeline.mem_restRefs_of main_v23 (by decide) (by decide))).trans (out_v23 m c)⟩) (run_main m ρ)

end Cert.ReferenceIdeal.Hand
-- ==== Proof.Deriv.lean ====
/- One element of the gradient, on the extended reals: the kernel's factored form and the reference's sum are one number,
   for every `x` and every incoming gradient, the infinities among them. -/
module

public import proofs.«01_k».proof.Proof.Pay
public import proofs.«01_k».proof.Proof.RValue

@[expose] public section

set_option maxRecDepth 16384

noncomputable section

namespace Cert.Hand

open Idealize.ShloMosaic

/-- `√(2/π)`. -/
def kR : ℝ := Real.sqrt (2 * Real.pi⁻¹)

theorem kR_pos : 0 < kR := Real.sqrt_pos.2 (mul_pos two_pos (inv_pos.2 Real.pi_pos))

theorem c_half : (Scalar.ofBits (F := Ideal) .f32 0x3F000000#32 : EReal) = ((1 / 2 : ℝ) : EReal) := by
  show Ideal.ofBits .f32 _ = _
  simp [Ideal.ofBits, Ideal.ieee]
  rw [← EReal.coe_mul]
  norm_num

theorem c_one : (Scalar.ofBits (F := Ideal) .f32 0x3F800000#32 : EReal) = ((1 : ℝ) : EReal) := by
  show Ideal.ofBits .f32 _ = _
  simp [Ideal.ofBits, Ideal.ieee]
  rw [← EReal.coe_mul, ← EReal.coe_one]
  norm_num

/-- The kernel's form over real constants. -/
def dvalR (x g : EReal) : EReal :=
  let t := Ideal.tanh (x * ((kR : EReal) + ((kR * (8943 / 200000) : ℝ) : EReal) * (x * x)))
  ((1 / 2 : ℝ) : EReal) * g * ((((1 : ℝ) : EReal) + t) * (((1 : ℝ) : EReal) + x * ((kR : EReal) + ((3 * kR * (8943 / 200000) : ℝ) : EReal) * (x * x)) * (((1 : ℝ) : EReal) - t)))

/-- The reference's form over real constants. -/
def drefR (x g : EReal) : EReal :=
  let t := Ideal.tanh ((kR : EReal) * (x + ((8943 / 200000 : ℝ) : EReal) * x * x * x))
  g * (((1 / 2 : ℝ) : EReal) * (((1 : ℝ) : EReal) + t)
    + ((1 / 2 : ℝ) : EReal) * x * (((1 : ℝ) : EReal) - t * t) * (kR : EReal) * (((1 : ℝ) : EReal) + ((26829 / 200000 : ℝ) : EReal) * x * x))

theorem dval_eq_R (x g : EReal) : Cert.KernelIdeal.Hand.dval x g = dvalR x g := by
  unfold Cert.KernelIdeal.Hand.dval dvalR
  simp only [c_half, c_one]
  rfl

theorem dref_eq_R (x g : EReal) : Cert.ReferenceIdeal.Hand.dref x g = drefR x g := by
  unfold Cert.ReferenceIdeal.Hand.dref drefR
  simp only [c_half, c_one]
  rfl

theorem tanh_top : Ideal.tanh ⊤ = ((1 : ℝ) : EReal) := rfl

theorem tanh_bot : Ideal.tanh ⊥ = ((-1 : ℝ) : EReal) := by
  show (-1 : EReal) = _
  rw [EReal.coe_neg, EReal.coe_one]

theorem top_case (g : EReal) : dvalR ⊤ g = drefR ⊤ g := by
  have hk := kR_pos
  unfold dvalR drefR
  simp only [EReal.top_mul_top, EReal.coe_mul_top_of_pos hk, EReal.coe_mul_top_of_pos (show (0 : ℝ) < kR * (8943 / 200000) by positivity),
    EReal.coe_mul_top_of_pos (show (0 : ℝ) < 3 * kR * (8943 / 200000) by positivity), EReal.coe_mul_top_of_pos (show (0 : ℝ) < 8943 / 200000 by norm_num),
    EReal.coe_mul_top_of_pos (show (0 : ℝ) < 26829 / 200000 by norm_num), EReal.coe_mul_top_of_pos (show (0 : ℝ) < 1 / 2 by norm_num),
    EReal.coe_add_top, EReal.top_add_top, tanh_top, ← EReal.coe_sub, ← EReal.coe_mul, ← EReal.coe_add]
  norm_num
  rw [mul_right_comm, ← EReal.coe_mul]
  norm_num

theorem bot_case (g : EReal) : dvalR ⊥ g = drefR ⊥ g := by
  have hk := kR_pos
  unfold dvalR drefR
  simp only [EReal.bot_mul_bot, EReal.top_mul_bot, EReal.bot_mul_top, EReal.coe_mul_bot_of_pos hk, EReal.coe_mul_top_of_pos hk, EReal.coe_mul_top_of_pos (show (0 : ℝ) < kR * (8943 / 200000) by positivity),
    EReal.coe_mul_top_of_pos (show (0 : ℝ) < 3 * kR * (8943 / 200000) by positivity), EReal.coe_mul_bot_of_pos (show (0 : ℝ) < 8943 / 200000 by norm_num),
    EReal.coe_mul_bot_of_pos (show (0 : ℝ) < 26829 / 200000 by norm_num), EReal.coe_mul_bot_of_pos (show (0 : ℝ) < 1 / 2 by norm_num),
    EReal.coe_add_top, EReal.bot_add, tanh_bot, ← EReal.coe_sub, ← EReal.coe_mul, ← EReal.coe_add]
  norm_num

theorem real_case (x : ℝ) (g : EReal) : dvalR x g = drefR x g := by
  have e : (x : EReal) * ((kR : EReal) + ((kR * (8943 / 200000) : ℝ) : EReal) * ((x : EReal) * x))
      = (kR : EReal) * ((x : EReal) + ((8943 / 200000 : ℝ) : EReal) * x * x * x) := by
    norm_cast
    ring_nf
  unfold dvalR drefR
  rw [e]
  have et : (kR : EReal) * ((x : EReal) + ((8943 / 200000 : ℝ) : EReal) * x * x * x) = ((kR * (x + 8943 / 200000 * x * x * x) : ℝ) : EReal) := by norm_cast
  rw [et]
  show _ * g * ((_ + ((Real.tanh _ : ℝ) : EReal)) * (_ + _ * (_ - ((Real.tanh _ : ℝ) : EReal)))) = g * (_ * (_ + ((Real.tanh _ : ℝ) : EReal)) + _ * (_ - ((Real.tanh _ : ℝ) : EReal) * ((Real.tanh _ : ℝ) : EReal)) * _ * _)
  generalize Real.tanh (kR * (x + 8943 / 200000 * x * x * x)) = t
  rw [mul_comm (((1 / 2 : ℝ) : EReal)) g, mul_assoc]
  congr 1
  norm_cast
  ring_nf

/-- The two forms are one. -/
theorem dval_eq_dref (x g : EReal) : Cert.KernelIdeal.Hand.dval x g = Cert.ReferenceIdeal.Hand.dref x g := by
  rw [dval_eq_R, dref_eq_R]
  induction x with
  | bot => exact bot_case g
  | top => exact top_case g
  | coe x => exact real_case x g

end Cert.Hand
-- ==== Proof.Trip.lean ====
module

public import proofs.«01_k».proof.Proof.Pay

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

/-- A 512-row block of a bf16 argument, at the reals. -/
abbrev Blk := S512x5504.Idx → EReal

/-- The gradient at row `r`, column `c` of a block (zero outside it). -/
def dB (xb gb : Blk) (r c : ℕ) : EReal :=
  if h : r < 512 ∧ c < 5504 then dval (xb (ix2 ⟨r, h.1⟩ ⟨c, h.2⟩)) (gb (ix2 ⟨r, h.1⟩ ⟨c, h.2⟩)) else 0

theorem dB_of (xb gb : Blk) {r c : ℕ} (hr : r < 512) (hc : c < 5504) :
    dB xb gb r c = dval (xb (ix2 ⟨r, hr⟩ ⟨c, hc⟩)) (gb (ix2 ⟨r, hr⟩ ⟨c, hc⟩)) := dif_pos ⟨hr, hc⟩

section

variable (arg2 arg3 : Memref sig .tc .vmem S512x5504 .bf16)
  (X2 : BufTy.Contents (Elt Ideal) arg2.view.ty) (X3 : BufTy.Contents (Elt Ideal) arg3.view.ty)

/-- What a load of 32 rows and 128 columns reads. -/
theorem readAt_chunk (v : Memref sig .tc .vmem S512x5504 .bf16) (X : BufTy.Contents (Elt Ideal) v.view.ty)
    {off : Fin 2 → ℕ} (inb : ∀ a, off a + S32x128.size a ≤ S512x5504.size a) {o c : ℕ} (h : off = ![o, c])
    (ho : o + 32 ≤ 512) (hc : c + 128 ≤ 5504) (r : Fin 32) (l : Fin 128) :
    v.view.readAt (Elt Ideal) (Rect.unit (s := S512x5504) off S32x128.size inb).toLoadRect X (ix2 r l)
      = v.view.read (Elt Ideal) X (ix2 ⟨o + r.val, by omega⟩ ⟨c + l.val, by omega⟩) := by
  subst h
  refine congrArg (v.view.read (Elt Ideal) X) (funext fun a => Fin.ext ?_)
  match a with
  | ⟨0, _⟩ => show o + 1 * r.val = o + r.val; omega
  | ⟨1, _⟩ => show c + 1 * l.val = c + l.val; omega

/-- The gradient of a loaded chunk, read off the block. -/
theorem chunk_dval {off : Fin 2 → ℕ} (inb : ∀ a, off a + S32x128.size a ≤ S512x5504.size a) {n k : ℕ}
    (h : off = ![32 * n, 128 * k]) (hn : n < 16) (hk : k < 43) (r : Fin 32) (l : Fin 128) :
    dval (arg3.view.readAt (Elt Ideal) (Rect.unit (s := S512x5504) off S32x128.size inb).toLoadRect X3 (ix2 r l))
        (arg2.view.readAt (Elt Ideal) (Rect.unit (s := S512x5504) off S32x128.size inb).toLoadRect X2 (ix2 r l))
      = dB (arg3.view.read (Elt Ideal) X3) (arg2.view.read (Elt Ideal) X2) (32 * n + r.val) (128 * k + l.val) := by
  rw [readAt_chunk arg3 X3 inb h (by omega) (by omega), readAt_chunk arg2 X2 inb h (by omega) (by omega),
    dB_of _ _ (by omega) (by omega)]

/-- One chunk's share of the running column sums. -/
theorem acc_step {off : Fin 2 → ℕ} (inb : ∀ a, off a + S32x128.size a ≤ S512x5504.size a) (n : ℕ) {k : ℕ}
    (h : off = ![32 * n, 128 * k]) (hn : n < 16) (hk : k < 43) (a : Vec Ideal S8x128 .f32) (a0 : EReal) (s : Fin 8) (l : Fin 128)
    (ih : a (ix2 s l) = a0 + ∑ i ∈ Finset.range (4 * n),
      dB (arg3.view.read (Elt Ideal) X3) (arg2.view.read (Elt Ideal) X2) (8 * i + s.val) (128 * k + l.val)) :
    k0_pay13 (F := Ideal) a
        (arg3.view.readAt (Elt Ideal) (Rect.unit (s := S512x5504) off S32x128.size inb).toLoadRect X3)
        (arg2.view.readAt (Elt Ideal) (Rect.unit (s := S512x5504) off S32x128.size inb).toLoadRect X2) (ix2 s l)
      = a0 + ∑ i ∈ Finset.range (4 * (n + 1)),
          dB (arg3.view.read (Elt Ideal) X3) (arg2.view.read (Elt Ideal) X2) (8 * i + s.val) (128 * k + l.val) := by
  rw [pay13_at, ih, Nat.mul_succ, Finset.sum_range_add, add_assoc]
  refine congrArg (_ + ·) (congrArg (_ + ·) ((Finset.sum_congr rfl fun u _ => ?_).trans
    (Finset.sum_range fun i => dB (arg3.view.read (Elt Ideal) X3) (arg2.view.read (Elt Ideal) X2) (8 * (4 * n + i) + s.val) (128 * k + l.val)).symm))
  rw [chunk_dval arg2 arg3 X2 X3 inb h hn hk]
  exact congrArg (dB _ _ · _) (by show 32 * n + (u.val * 8 + s.val) = 8 * (4 * n + u.val) + s.val; omega)

/-- One chunk's share of the running maxima. -/
theorem max_step {off : Fin 2 → ℕ} (inb : ∀ a, off a + S32x128.size a ≤ S512x5504.size a) (n : ℕ) {k : ℕ}
    (h : off = ![32 * n, 128 * k]) (hn : n < 16) (hk : k < 43) (a : Vec Ideal S8x128 .f32) (a0 : EReal) (s : Fin 8) (l : Fin 128)
    (ih : ∀ z, a (ix2 s l) ≤ z ↔ a0 ≤ z ∧ ∀ i < 4 * n,
      aval (dB (arg3.view.read (Elt Ideal) X3) (arg2.view.read (Elt Ideal) X2) (8 * i + s.val) (128 * k + l.val)) ≤ z) (z : EReal) :
    k0_pay14 (F := Ideal) a
        (arg3.view.readAt (Elt Ideal) (Rect.unit (s := S512x5504) off S32x128.size inb).toLoadRect X3)
        (arg2.view.readAt (Elt Ideal) (Rect.unit (s := S512x5504) off S32x128.size inb).toLoadRect X2) (ix2 s l) ≤ z
      ↔ a0 ≤ z ∧ ∀ i < 4 * (n + 1),
          aval (dB (arg3.view.read (Elt Ideal) X3) (arg2.view.read (Elt Ideal) X2) (8 * i + s.val) (128 * k + l.val)) ≤ z := by
  rw [pay14_at, ih, and_assoc]
  refine and_congr_right fun _ => ?_
  have e : ∀ u : Fin 4, aval (dval
      (arg3.view.readAt (Elt Ideal) (Rect.unit (s := S512x5504) off S32x128.size inb).toLoadRect X3 (ix2 ⟨u.val * 8 + s.val, by omega⟩ l))
      (arg2.view.readAt (Elt Ideal) (Rect.unit (s := S512x5504) off S32x128.size inb).toLoadRect X2 (ix2 ⟨u.val * 8 + s.val, by omega⟩ l)))
      = aval (dB (arg3.view.read (Elt Ideal) X3) (arg2.view.read (Elt Ideal) X2) (8 * (4 * n + u.val) + s.val) (128 * k + l.val)) := fun u => by
    rw [chunk_dval arg2 arg3 X2 X3 inb h hn hk]
    exact congrArg (fun r => aval (dB _ _ r _)) (by show 32 * n + (u.val * 8 + s.val) = 8 * (4 * n + u.val) + s.val; omega)
  simp only [e]
  constructor
  · rintro ⟨h1, h2⟩ i hi
    by_cases hlt : i < 4 * n
    · exact h1 i hlt
    · have := h2 ⟨i - 4 * n, by omega⟩
      rwa [show 4 * n + (i - 4 * n) = i by omega] at this
  · intro h1
    exact ⟨fun i hi => h1 i (by omega), fun u => h1 (4 * n + u.val) (by omega)⟩

/-- Rows below `32 n` of column strip `k` hold the codes, the rest what was there: the state after `n` stores of a strip. -/
def CodesTo (arg5 : Memref sig .tc .vmem S512x5504 .fp8e5m2) (v0 : Elt Ideal .f32) (k n : ℕ)
    (L : List (View.Piece (Elt Ideal) S512x5504 .fp8e5m2)) : Prop :=
  ∀ (f : BufTy.Contents (Elt Ideal) arg5.view.ty) (r : Fin 512) (c : Fin 5504),
    arg5.view.read (Elt Ideal) (arg5.view.writes (Elt Ideal) f L) (ix2 r c)
      = if 128 * k ≤ c.val ∧ c.val < 128 * k + 128 ∧ r.val < 32 * n then
          qval (dB (arg3.view.read (Elt Ideal) X3) (arg2.view.read (Elt Ideal) X2) r.val c.val) v0
        else arg5.view.read (Elt Ideal) f (ix2 r c)

theorem codes_nil (arg5 : Memref sig .tc .vmem S512x5504 .fp8e5m2) (v0 : Elt Ideal .f32) (k : ℕ) :
    CodesTo arg2 arg3 X2 X3 arg5 v0 k 0 [] := fun f r c => by
  rw [if_neg (by omega), View.writes_nil]

theorem codes_step (arg5 : Memref sig .tc .vmem S512x5504 .fp8e5m2) (v0 : Elt Ideal .f32) {k : ℕ} (n : ℕ)
    {off : Fin 2 → ℕ} (inb : ∀ a, off a + S32x128.size a ≤ S512x5504.size a)
    (h : off = ![32 * n, 128 * k]) (hn : n < 16) (hk : k < 43) (L : List (View.Piece (Elt Ideal) S512x5504 .fp8e5m2))
    (ih : CodesTo arg2 arg3 X2 X3 arg5 v0 k n L) :
    CodesTo arg2 arg3 X2 X3 arg5 v0 k (n + 1)
      (⟨Rect.unit (s := S512x5504) off S32x128.size inb, k0_pay10 (F := Ideal) (k0_pay5
        (arg3.view.readAt (Elt Ideal) (Rect.unit (s := S512x5504) off S32x128.size inb).toLoadRect X3)
        (arg2.view.readAt (Elt Ideal) (Rect.unit (s := S512x5504) off S32x128.size inb).toLoadRect X2)) (k0_pay9 v0)⟩ :: L) := by
  intro f r c
  by_cases hm : 128 * k ≤ c.val ∧ c.val < 128 * k + 128 ∧ 32 * n ≤ r.val ∧ r.val < 32 * n + 32
  · rw [View.read_writes_cons_unit_of_mem arg5.view f inb _ L (ix2 r c)
      (ix2 (⟨r.val - 32 * n, by omega⟩ : Fin 32) (⟨c.val - 128 * k, by omega⟩ : Fin 128)) h
      (fun a => match a with
        | ⟨0, _⟩ => by show r.val = 32 * n + (r.val - 32 * n); omega
        | ⟨1, _⟩ => by show c.val = 128 * k + (c.val - 128 * k); omega),
      pay10_at, chunk_dval arg2 arg3 X2 X3 inb h hn hk, if_pos (by omega)]
    exact congrArg (qval · v0) (congrArg₂ (dB _ _) (by show 32 * n + (r.val - 32 * n) = r.val; omega)
      (by show 128 * k + (c.val - 128 * k) = c.val; omega))
  · have e : arg5.view.read (Elt Ideal) (arg5.view.writes (Elt Ideal) f (⟨Rect.unit (s := S512x5504) off S32x128.size inb, k0_pay10 (F := Ideal) (k0_pay5
        (arg3.view.readAt (Elt Ideal) (Rect.unit (s := S512x5504) off S32x128.size inb).toLoadRect X3)
        (arg2.view.readAt (Elt Ideal) (Rect.unit (s := S512x5504) off S32x128.size inb).toLoadRect X2)) (k0_pay9 v0)⟩ :: L)) (ix2 r c)
        = arg5.view.read (Elt Ideal) (arg5.view.writes (Elt Ideal) f L) (ix2 r c) := by
      by_cases h0 : r.val < 32 * n ∨ 32 * n + 32 ≤ r.val
      · exact View.read_writes_cons_unit_of_not_mem arg5.view f inb _ L (ix2 r c) h (0 : Fin 2) h0
      · exact View.read_writes_cons_unit_of_not_mem arg5.view f inb _ L (ix2 r c) h (1 : Fin 2)
          (by show c.val < 128 * k ∨ 128 * k + 128 ≤ c.val; omega)
    rw [e, ih f r c]
    exact if_congr (by omega) rfl rfl

end

section Trip

variable (𝒱 : Variants) (c : Dev nD) (bd : Option 𝒱.V) (i : grid0.Coords)
  (arg1 : Memref sig .tc .smem S1 .f32) (harg1 : arg1.IsWhole) (arg2 : Memref sig .tc .vmem S512x5504 .bf16) (harg2 : arg2.IsWhole)
  (arg3 : Memref sig .tc .vmem S512x5504 .bf16) (harg3 : arg3.IsWhole) (arg4 : Memref sig .tc .vmem S8x5504 .f32) (harg4 : arg4.IsWhole)
  (arg5 : Memref sig .tc .vmem S512x5504 .fp8e5m2) (harg5 : arg5.IsWhole) (arg6 : Memref sig .tc .vmem S5504x512 .fp8e5m2) (harg6 : arg6.IsWhole)
  (arg7 : Memref sig .tc .vmem S8x128 .f32) (harg7 : arg7.IsWhole) (v0 : Elt Ideal .f32)
  (X2 : BufTy.Contents (Elt Ideal) arg2.view.ty) (X3 : BufTy.Contents (Elt Ideal) arg3.view.ty) (k : Fin k0_t1_loop.trips)
  (f4 : BufTy.Contents (Elt Ideal) arg4.view.ty) (f5 : BufTy.Contents (Elt Ideal) arg5.view.ty)
  (f6 : BufTy.Contents (Elt Ideal) arg6.view.ty) (f7 : BufTy.Contents (Elt Ideal) arg7.view.ty)

theorem trips_lt : k.val < 43 := Nat.lt_of_lt_of_le k.isLt k0_t1_abs.2.1

theorem r46_at (s : Fin 8) (l : Fin 128) :
    trip_k0_t1.sl.r_46 (F := Ideal) arg2 arg3 arg4 X2 X3 k f4 (ix2 s l)
      = View.readAt (Elt Ideal) arg4.view (Rect.unit (s := S8x5504) (k0_off1 k) S8x128.size (k0_off1_inb k)).toLoadRect f4 (ix2 s l)
        + ∑ i ∈ Finset.range 64, dB (View.read (Elt Ideal) arg3.view X3) (View.read (Elt Ideal) arg2.view X2) (8 * i + s.val) (128 * k.val + l.val) := by
  have hk := trips_lt k
  have A := @acc_step arg2 arg3 X2 X3
  exact A (k0_off17_inb k) 15 (k0_off17_eq k) (by omega) hk _ _ s l <|
    A (k0_off16_inb k) 14 (k0_off16_eq k) (by omega) hk _ _ s l <|
    A (k0_off15_inb k) 13 (k0_off15_eq k) (by omega) hk _ _ s l <|
    A (k0_off14_inb k) 12 (k0_off14_eq k) (by omega) hk _ _ s l <|
    A (k0_off13_inb k) 11 (k0_off13_eq k) (by omega) hk _ _ s l <|
    A (k0_off12_inb k) 10 (k0_off12_eq k) (by omega) hk _ _ s l <|
    A (k0_off11_inb k) 9 (k0_off11_eq k) (by omega) hk _ _ s l <|
    A (k0_off10_inb k) 8 (k0_off10_eq k) (by omega) hk _ _ s l <|
    A (k0_off9_inb k) 7 (k0_off9_eq k) (by omega) hk _ _ s l <|
    A (k0_off8_inb k) 6 (k0_off8_eq k) (by omega) hk _ _ s l <|
    A (k0_off7_inb k) 5 (k0_off7_eq k) (by omega) hk _ _ s l <|
    A (k0_off6_inb k) 4 (k0_off6_eq k) (by omega) hk _ _ s l <|
    A (k0_off5_inb k) 3 (k0_off5_eq k) (by omega) hk _ _ s l <|
    A (k0_off4_inb k) 2 (k0_off4_eq k) (by omega) hk _ _ s l <|
    A (k0_off3_inb k) 1 (k0_off3_eq k) (by omega) hk _ _ s l <|
    (congrFun (pay7_eq _ _ _) _).trans (A (k0_off2_inb k) 0 (k0_off2_eq k) (by omega) hk _ _ s l (by simp))

theorem r47_at (s : Fin 8) (l : Fin 128) (z : EReal) :
    trip_k0_t1.sl.r_47 (F := Ideal) arg2 arg3 arg7 X2 X3 k f7 (ix2 s l) ≤ z
      ↔ View.read (Elt Ideal) arg7.view f7 (ix2 s l) ≤ z ∧ ∀ i < 64, aval (dB (View.read (Elt Ideal) arg3.view X3) (View.read (Elt Ideal) arg2.view X2) (8 * i + s.val) (128 * k.val + l.val)) ≤ z := by
  have hk := trips_lt k
  have A := @max_step arg2 arg3 X2 X3
  exact A (k0_off17_inb k) 15 (k0_off17_eq k) (by omega) hk _ _ s l
    (A (k0_off16_inb k) 14 (k0_off16_eq k) (by omega) hk _ _ s l
    (A (k0_off15_inb k) 13 (k0_off15_eq k) (by omega) hk _ _ s l
    (A (k0_off14_inb k) 12 (k0_off14_eq k) (by omega) hk _ _ s l
    (A (k0_off13_inb k) 11 (k0_off13_eq k) (by omega) hk _ _ s l
    (A (k0_off12_inb k) 10 (k0_off12_eq k) (by omega) hk _ _ s l
    (A (k0_off11_inb k) 9 (k0_off11_eq k) (by omega) hk _ _ s l
    (A (k0_off10_inb k) 8 (k0_off10_eq k) (by omega) hk _ _ s l
    (A (k0_off9_inb k) 7 (k0_off9_eq k) (by omega) hk _ _ s l
    (A (k0_off8_inb k) 6 (k0_off8_eq k) (by omega) hk _ _ s l
    (A (k0_off7_inb k) 5 (k0_off7_eq k) (by omega) hk _ _ s l
    (A (k0_off6_inb k) 4 (k0_off6_eq k) (by omega) hk _ _ s l
    (A (k0_off5_inb k) 3 (k0_off5_eq k) (by omega) hk _ _ s l
    (A (k0_off4_inb k) 2 (k0_off4_eq k) (by omega) hk _ _ s l
    (A (k0_off3_inb k) 1 (k0_off3_eq k) (by omega) hk _ _ s l
    (fun z => (iff_of_eq (congrArg (· ≤ z) (congrFun (pay8_eq _ _ _) _))).trans (A (k0_off2_inb k) 0 (k0_off2_eq k) (by omega) hk _ _ s l (fun z => by
      rw [View.readAt_full]
      exact ⟨fun h => ⟨h, fun i hi => absurd hi (by omega)⟩, fun h => h.1⟩) z)))))))))))))))) z

theorem hw5_codes : CodesTo arg2 arg3 X2 X3 arg5 v0 k.val 16 (trip_k0_t1.sl.HW_arg5_16 (F := Ideal) arg2 arg3 v0 X2 X3 k) := by
  have hk := trips_lt k
  have A := @codes_step arg2 arg3 X2 X3 arg5 v0
  exact A 15 (k0_off17_inb k) (k0_off17_eq k) (by omega) hk _ <|
    A 14 (k0_off16_inb k) (k0_off16_eq k) (by omega) hk _ <|
    A 13 (k0_off15_inb k) (k0_off15_eq k) (by omega) hk _ <|
    A 12 (k0_off14_inb k) (k0_off14_eq k) (by omega) hk _ <|
    A 11 (k0_off13_inb k) (k0_off13_eq k) (by omega) hk _ <|
    A 10 (k0_off12_inb k) (k0_off12_eq k) (by omega) hk _ <|
    A 9 (k0_off11_inb k) (k0_off11_eq k) (by omega) hk _ <|
    A 8 (k0_off10_inb k) (k0_off10_eq k) (by omega) hk _ <|
    A 7 (k0_off9_inb k) (k0_off9_eq k) (by omega) hk _ <|
    A 6 (k0_off8_inb k) (k0_off8_eq k) (by omega) hk _ <|
    A 5 (k0_off7_inb k) (k0_off7_eq k) (by omega) hk _ <|
    A 4 (k0_off6_inb k) (k0_off6_eq k) (by omega) hk _ <|
    A 3 (k0_off5_inb k) (k0_off5_eq k) (by omega) hk _ <|
    A 2 (k0_off4_inb k) (k0_off4_eq k) (by omega) hk _ <|
    A 1 (k0_off3_inb k) (k0_off3_eq k) (by omega) hk _ <|
    A 0 (k0_off2_inb k) (k0_off2_eq k) (by omega) hk _ (codes_nil arg2 arg3 X2 X3 arg5 v0 k.val)

/-- One trip of the loop adds its strip's column sums to `arg4`. -/
theorem trip4 (s : Fin 8) (c' : Fin 5504) :
    View.read (Elt Ideal) arg4.view (View.writes arg4.view (Elt Ideal) f4 ((trip_k0_t1 (F := Ideal) 𝒱 c bd i arg1 harg1 arg2 harg2 arg3 harg3 arg4 harg4 arg5 harg5 arg6 harg6 arg7 harg7 v0 X2 X3 k).1 f4 f5 f6 f7)) (ix2 s c')
      = if 128 * k.val ≤ c'.val ∧ c'.val < 128 * k.val + 128 then
          View.read (Elt Ideal) arg4.view f4 (ix2 s c')
            + ∑ i ∈ Finset.range 64, dB (View.read (Elt Ideal) arg3.view X3) (View.read (Elt Ideal) arg2.view X2) (8 * i + s.val) c'.val
        else View.read (Elt Ideal) arg4.view f4 (ix2 s c') := by
  have hk := trips_lt k
  have e : (trip_k0_t1 (F := Ideal) 𝒱 c bd i arg1 harg1 arg2 harg2 arg3 harg3 arg4 harg4 arg5 harg5 arg6 harg6 arg7 harg7 v0 X2 X3 k).1 f4 f5 f6 f7
      = [⟨Rect.unit (s := S8x5504) (k0_off1 k) S8x128.size (k0_off1_inb k), trip_k0_t1.sl.r_46 (F := Ideal) arg2 arg3 arg4 X2 X3 k f4⟩] := by
    unfold trip_k0_t1; rfl
  rw [e]
  by_cases hm : 128 * k.val ≤ c'.val ∧ c'.val < 128 * k.val + 128
  · rw [if_pos hm, View.read_writes_cons_unit_of_mem arg4.view f4 (k0_off1_inb k) _ [] (ix2 s c')
      (ix2 s (⟨c'.val - 128 * k.val, by omega⟩ : Fin 128)) (k0_off1_eq k)
      (fun a => match a with
        | ⟨0, _⟩ => by show s.val = 0 + s.val; omega
        | ⟨1, _⟩ => by show c'.val = 128 * k.val + (c'.val - 128 * k.val); omega)]
    refine (r46_at arg2 arg3 arg4 X2 X3 k f4 s ⟨c'.val - 128 * k.val, by omega⟩).trans (congrArg₂ (· + ·) ?_ ?_)
    · refine congrArg (View.read (Elt Ideal) arg4.view f4) (funext fun a => Fin.ext ?_)
      have h := k0_off1_eq k
      match a with
      | ⟨0, _⟩ => show k0_off1 k 0 + 1 * s.val = s.val; rw [h]; show 0 + 1 * s.val = s.val; omega
      | ⟨1, _⟩ => show k0_off1 k 1 + 1 * (c'.val - 128 * k.val) = c'.val; rw [h]; show 128 * k.val + 1 * (c'.val - 128 * k.val) = c'.val; omega
    · rw [show 128 * k.val + (⟨c'.val - 128 * k.val, by omega⟩ : Fin 128).val = c'.val by show 128 * k.val + (c'.val - 128 * k.val) = c'.val; omega]
  · rw [if_neg hm, View.read_writes_cons_unit_of_not_mem arg4.view f4 (k0_off1_inb k) _ [] (ix2 s c') (k0_off1_eq k) (1 : Fin 2)
      (by show c'.val < 128 * k.val ∨ 128 * k.val + 128 ≤ c'.val; omega), View.writes_nil]

/-- One trip of the loop stores its strip of the codes in `arg5`. -/
theorem trip5 (r : Fin 512) (c' : Fin 5504) :
    View.read (Elt Ideal) arg5.view (View.writes arg5.view (Elt Ideal) f5 ((trip_k0_t1 (F := Ideal) 𝒱 c bd i arg1 harg1 arg2 harg2 arg3 harg3 arg4 harg4 arg5 harg5 arg6 harg6 arg7 harg7 v0 X2 X3 k).2.1 f4 f5 f6 f7)) (ix2 r c')
      = if 128 * k.val ≤ c'.val ∧ c'.val < 128 * k.val + 128 then
          qval (dB (View.read (Elt Ideal) arg3.view X3) (View.read (Elt Ideal) arg2.view X2) r.val c'.val) v0
        else View.read (Elt Ideal) arg5.view f5 (ix2 r c') := by
  have e : (trip_k0_t1 (F := Ideal) 𝒱 c bd i arg1 harg1 arg2 harg2 arg3 harg3 arg4 harg4 arg5 harg5 arg6 harg6 arg7 harg7 v0 X2 X3 k).2.1 f4 f5 f6 f7
      = trip_k0_t1.sl.HW_arg5_16 (F := Ideal) arg2 arg3 v0 X2 X3 k := by
    unfold trip_k0_t1; rfl
  rw [e, hw5_codes arg2 arg3 arg5 v0 X2 X3 k f5 r c']
  exact if_congr (by have := r.isLt; omega) rfl rfl

/-- One trip of the loop stores the same strip, transposed, in `arg6`. -/
theorem trip6 (c' : Fin 5504) (r : Fin 512) :
    View.read (Elt Ideal) arg6.view (View.writes arg6.view (Elt Ideal) f6 ((trip_k0_t1 (F := Ideal) 𝒱 c bd i arg1 harg1 arg2 harg2 arg3 harg3 arg4 harg4 arg5 harg5 arg6 harg6 arg7 harg7 v0 X2 X3 k).2.2.1 f4 f5 f6 f7)) (ix2 c' r)
      = if 128 * k.val ≤ c'.val ∧ c'.val < 128 * k.val + 128 then
          qval (dB (View.read (Elt Ideal) arg3.view X3) (View.read (Elt Ideal) arg2.view X2) r.val c'.val) v0
        else View.read (Elt Ideal) arg6.view f6 (ix2 c' r) := by
  have hk := trips_lt k
  have e : (trip_k0_t1 (F := Ideal) 𝒱 c bd i arg1 harg1 arg2 harg2 arg3 harg3 arg4 harg4 arg5 harg5 arg6 harg6 arg7 harg7 v0 X2 X3 k).2.2.1 f4 f5 f6 f7
      = [⟨Rect.unit (s := S5504x512) (k0_off19 k) S128x512.size (k0_off19_inb k), k0_pay4 (F := Ideal) (trip_k0_t1.sl.v720 (F := Ideal) arg2 arg3 arg5 v0 X2 X3 k)⟩] := by
    unfold trip_k0_t1; rfl
  rw [e]
  by_cases hm : 128 * k.val ≤ c'.val ∧ c'.val < 128 * k.val + 128
  · rw [if_pos hm, View.read_writes_cons_unit_of_mem arg6.view f6 (k0_off19_inb k) _ [] (ix2 c' r)
      (ix2 (⟨c'.val - 128 * k.val, by omega⟩ : Fin 128) r) (k0_off19_eq k)
      (fun a => match a with
        | ⟨0, _⟩ => by show c'.val = 128 * k.val + (c'.val - 128 * k.val); omega
        | ⟨1, _⟩ => by show r.val = 0 + r.val; omega), pay4_at]
    have hi : (Rect.unit (s := S512x5504) (k0_off18 k) S512x128.size (k0_off18_inb k)).toLoadRect.idx
        (ix2 r (⟨c'.val - 128 * k.val, by omega⟩ : Fin 128)) = ix2 r c' := by
      have h := k0_off18_eq k
      refine funext fun a => Fin.ext ?_
      match a with
      | ⟨0, _⟩ => show k0_off18 k 0 + 1 * r.val = r.val; rw [h]; show 0 + 1 * r.val = r.val; omega
      | ⟨1, _⟩ => show k0_off18 k 1 + 1 * (c'.val - 128 * k.val) = c'.val; rw [h]; show 128 * k.val + 1 * (c'.val - 128 * k.val) = c'.val; omega
    show View.read (Elt Ideal) arg5.view (View.writes arg5.view (Elt Ideal) arg5.view.junk (trip_k0_t1.sl.HW_arg5_16 (F := Ideal) arg2 arg3 v0 X2 X3 k)) _ = _
    rw [hi, hw5_codes arg2 arg3 arg5 v0 X2 X3 k _ r c']
    exact if_pos (by have := r.isLt; omega)
  · rw [if_neg hm, View.read_writes_cons_unit_of_not_mem arg6.view f6 (k0_off19_inb k) _ [] (ix2 c' r) (k0_off19_eq k) (0 : Fin 2)
      (by show c'.val < 128 * k.val ∨ 128 * k.val + 128 ≤ c'.val; omega), View.writes_nil]

/-- One trip of the loop folds its strip's magnitudes into `arg7`. -/
theorem trip7 (s : Fin 8) (l : Fin 128) (z : EReal) :
    View.read (Elt Ideal) arg7.view (View.writes arg7.view (Elt Ideal) f7 ((trip_k0_t1 (F := Ideal) 𝒱 c bd i arg1 harg1 arg2 harg2 arg3 harg3 arg4 harg4 arg5 harg5 arg6 harg6 arg7 harg7 v0 X2 X3 k).2.2.2.1 f4 f5 f6 f7)) (ix2 s l) ≤ z
      ↔ View.read (Elt Ideal) arg7.view f7 (ix2 s l) ≤ z ∧ ∀ i < 64, aval (dB (View.read (Elt Ideal) arg3.view X3) (View.read (Elt Ideal) arg2.view X2) (8 * i + s.val) (128 * k.val + l.val)) ≤ z := by
  have e : (trip_k0_t1 (F := Ideal) 𝒱 c bd i arg1 harg1 arg2 harg2 arg3 harg3 arg4 harg4 arg5 harg5 arg6 harg6 arg7 harg7 v0 X2 X3 k).2.2.2.1 f4 f5 f6 f7
      = [⟨Rect.unit (s := S8x128) ![0, 0] S8x128.size inb_S8x128_S8x128_0_0, trip_k0_t1.sl.r_47 (F := Ideal) arg2 arg3 arg7 X2 X3 k f7⟩] := by
    unfold trip_k0_t1; rfl
  rw [e, View.read_writes_full]
  exact r47_at arg2 arg3 arg7 X2 X3 k f7 s l z

/-- What the four written buffers read after the first `n` trips, over what they read before the loop. -/
structure LoopHolds (n : ℕ)
    (g4 : BufTy.Contents (Elt Ideal) arg4.view.ty) (g5 : BufTy.Contents (Elt Ideal) arg5.view.ty)
    (g6 : BufTy.Contents (Elt Ideal) arg6.view.ty) (g7 : BufTy.Contents (Elt Ideal) arg7.view.ty) : Prop where
  sums : ∀ (s : Fin 8) (c' : Fin 5504), View.read (Elt Ideal) arg4.view g4 (ix2 s c')
    = if c'.val < 128 * n then
        View.read (Elt Ideal) arg4.view f4 (ix2 s c')
          + ∑ i ∈ Finset.range 64, dB (View.read (Elt Ideal) arg3.view X3) (View.read (Elt Ideal) arg2.view X2) (8 * i + s.val) c'.val
      else View.read (Elt Ideal) arg4.view f4 (ix2 s c')
  rows : ∀ (r : Fin 512) (c' : Fin 5504), c'.val < 128 * n → View.read (Elt Ideal) arg5.view g5 (ix2 r c')
    = qval (dB (View.read (Elt Ideal) arg3.view X3) (View.read (Elt Ideal) arg2.view X2) r.val c'.val) v0
  cols : ∀ (c' : Fin 5504) (r : Fin 512), c'.val < 128 * n → View.read (Elt Ideal) arg6.view g6 (ix2 c' r)
    = qval (dB (View.read (Elt Ideal) arg3.view X3) (View.read (Elt Ideal) arg2.view X2) r.val c'.val) v0
  maxs : ∀ (s : Fin 8) (l : Fin 128) (z : EReal), View.read (Elt Ideal) arg7.view g7 (ix2 s l) ≤ z
    ↔ View.read (Elt Ideal) arg7.view f7 (ix2 s l) ≤ z ∧ ∀ k < n, ∀ i < 64,
        aval (dB (View.read (Elt Ideal) arg3.view X3) (View.read (Elt Ideal) arg2.view X2) (8 * i + s.val) (128 * k + l.val)) ≤ z

/-- The loop, after any number of trips. -/
theorem loop_holds (n : ℕ) (hn : n ≤ k0_t1_loop.trips) :
    LoopHolds arg2 arg3 arg4 arg5 arg6 arg7 v0 X2 X3 f4 f7 n
      (View.writes arg4.view (Elt Ideal) f4 (pb_k0_t1 (F := Ideal) 𝒱 c bd i arg1 harg1 arg2 harg2 arg3 harg3 arg4 harg4 arg5 harg5 arg6 harg6 arg7 harg7 v0 X2 X3 f4 f5 f6 f7 n).1)
      (View.writes arg5.view (Elt Ideal) f5 (pb_k0_t1 (F := Ideal) 𝒱 c bd i arg1 harg1 arg2 harg2 arg3 harg3 arg4 harg4 arg5 harg5 arg6 harg6 arg7 harg7 v0 X2 X3 f4 f5 f6 f7 n).2.1)
      (View.writes arg6.view (Elt Ideal) f6 (pb_k0_t1 (F := Ideal) 𝒱 c bd i arg1 harg1 arg2 harg2 arg3 harg3 arg4 harg4 arg5 harg5 arg6 harg6 arg7 harg7 v0 X2 X3 f4 f5 f6 f7 n).2.2.1)
      (View.writes arg7.view (Elt Ideal) f7 (pb_k0_t1 (F := Ideal) 𝒱 c bd i arg1 harg1 arg2 harg2 arg3 harg3 arg4 harg4 arg5 harg5 arg6 harg6 arg7 harg7 v0 X2 X3 f4 f5 f6 f7 n).2.2.2) := by
  induction n with
  | zero =>
    refine ⟨fun s c' => ?_, fun r c' h => absurd h (by omega), fun c' r h => absurd h (by omega), fun s l z => ?_⟩
    · rw [if_neg (by omega)]; rfl
    · exact ⟨fun h => ⟨h, fun k hk => absurd hk (by omega)⟩, fun h => h.1⟩
  | succ n ih =>
    have ih := ih (Nat.le_of_succ_le hn)
    rw [pb_k0_t1_succ 𝒱 c bd i arg1 harg1 arg2 harg2 arg3 harg3 arg4 harg4 arg5 harg5 arg6 harg6 arg7 harg7 v0 X2 X3 f4 f5 f6 f7 ⟨n, hn⟩]
    simp only [View.writes_append]
    generalize View.writes arg4.view (Elt Ideal) f4 (pb_k0_t1 (F := Ideal) 𝒱 c bd i arg1 harg1 arg2 harg2 arg3 harg3 arg4 harg4 arg5 harg5 arg6 harg6 arg7 harg7 v0 X2 X3 f4 f5 f6 f7 n).1 = g4 at ih ⊢
    generalize View.writes arg5.view (Elt Ideal) f5 (pb_k0_t1 (F := Ideal) 𝒱 c bd i arg1 harg1 arg2 harg2 arg3 harg3 arg4 harg4 arg5 harg5 arg6 harg6 arg7 harg7 v0 X2 X3 f4 f5 f6 f7 n).2.1 = g5 at ih ⊢
    generalize View.writes arg6.view (Elt Ideal) f6 (pb_k0_t1 (F := Ideal) 𝒱 c bd i arg1 harg1 arg2 harg2 arg3 harg3 arg4 harg4 arg5 harg5 arg6 harg6 arg7 harg7 v0 X2 X3 f4 f5 f6 f7 n).2.2.1 = g6 at ih ⊢
    generalize View.writes arg7.view (Elt Ideal) f7 (pb_k0_t1 (F := Ideal) 𝒱 c bd i arg1 harg1 arg2 harg2 arg3 harg3 arg4 harg4 arg5 harg5 arg6 harg6 arg7 harg7 v0 X2 X3 f4 f5 f6 f7 n).2.2.2 = g7 at ih ⊢
    refine ⟨fun s c' => ?_, fun r c' h => ?_, fun c' r h => ?_, fun s l z => ?_⟩
    · rw [trip4, ih.sums]
      show (if 128 * n ≤ c'.val ∧ c'.val < 128 * n + 128 then _ else _) = _
      by_cases h1 : c'.val < 128 * n
      · rw [if_neg (by omega), if_pos h1, if_pos (by omega)]
      · by_cases h2 : c'.val < 128 * (n + 1)
        · rw [if_pos (by omega), if_neg h1, if_pos h2]
        · rw [if_neg (by omega), if_neg h1, if_neg h2]
    · rw [trip5]
      show (if 128 * n ≤ c'.val ∧ c'.val < 128 * n + 128 then _ else _) = _
      by_cases h1 : c'.val < 128 * n
      · rw [if_neg (by omega), ih.rows r c' h1]
      · rw [if_pos (by omega)]
    · rw [trip6]
      show (if 128 * n ≤ c'.val ∧ c'.val < 128 * n + 128 then _ else _) = _
      by_cases h1 : c'.val < 128 * n
      · rw [if_neg (by omega), ih.cols c' r h1]
      · rw [if_pos (by omega)]
    · rw [trip7, ih.maxs, and_assoc]
      refine and_congr_right fun _ => ⟨fun h k hk => ?_, fun h => ⟨fun k hk => h k (by omega), h n (by omega)⟩⟩
      rcases Nat.lt_succ_iff_lt_or_eq.mp hk with h' | rfl
      · exact h.1 k h'
      · exact h.2

theorem trips_eq : k0_t1_loop.trips = 43 := by decide +kernel

end Trip

end Cert.KernelIdeal.Hand
-- ==== Proof.Run.lean ====
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The column sums of a block, by position within groups of eight rows, over what was there. -/
def sumsOf (xb gb : Blk) (a : S8x5504.Idx → EReal) : S8x5504.Idx → EReal := fun j =>
  a j + ∑ i ∈ Finset.range 64, dB xb gb (8 * i + (j 0).val) (j 1).val

/-- The codes of a block. -/
def codesOf (xb gb : Blk) (v : EReal) : S512x5504.Idx → EReal := fun j => qval (dB xb gb (j 0).val (j 1).val) v

/-- The codes of a block, transposed. -/
def codesTOf (xb gb : Blk) (v : EReal) : S5504x512.Idx → EReal := fun j => qval (dB xb gb (j 1).val (j 0).val) v

/-- The largest magnitude of a block, by position within groups of eight rows and 128 columns, over what was there. -/
def maxsOf (xb gb : Blk) (a : S8x128.Idx → EReal) : S8x128.Idx → EReal := fun j =>
  max (a j) ((Finset.range 43).sup fun k => (Finset.range 64).sup fun i => aval (dB xb gb (8 * i + (j 0).val) (128 * k + (j 1).val)))

theorem maxsOf_le (xb gb : Blk) (a : S8x128.Idx → EReal) (j : S8x128.Idx) (z : EReal) :
    maxsOf xb gb a j ≤ z ↔ a j ≤ z ∧ ∀ k < 43, ∀ i < 64, aval (dB xb gb (8 * i + (j 0).val) (128 * k + (j 1).val)) ≤ z := by
  unfold maxsOf
  simp only [max_le_iff, Finset.sup_le_iff, Finset.mem_range]

theorem pay1_at (j : S8x5504.Idx) : k0_pay1 (F := Ideal) j = (0 : EReal) := by
  show Ideal.ofBits .f32 0x00000000#32 = 0
  simp [Ideal.ofBits, Ideal.ieee]

theorem pay2_at (j : S8x128.Idx) : k0_pay2 (F := Ideal) j = (0 : EReal) := by
  show Ideal.ofBits .f32 0x00000000#32 = 0
  simp [Ideal.ofBits, Ideal.ieee]

local notation "𝕄" => MT nD τ sig Unit (Elt Ideal) ℕ (UR sig nD τ) ℕ

/-- The condition of the body's branch, from the grid coordinates. -/
abbrev cond0_0 (i : grid0.Coords) : Prop := (Scalar.cmpi .ne (Scalar.extui (Scalar.cmpi .eq (BitVec.ofNat 32 (i 0).val) 0#32)) 0#32) = 1#1

/-- It holds at the first point only. -/
theorem hcond0_0 : ∀ t : Fin cfg0.N, cond0_0 (grid0.coords t) ↔ t.val % 70 = 0 :=
  (fun t => by
    have ht : t.val < 70 := Nat.lt_of_lt_of_eq t.isLt N_0
    have e0 : (grid0.coords t 0).val = t.val / 1 % 70 := Pipeline.Grid.coords_val t 0 (by decide) rfl
    simp only [cond0_0, e0]
    word_cmp
   : ∀ t : Fin grid0.N, cond0_0 (grid0.coords t) ↔ t.val % 70 = 0)

/-- The shape of one element has one index. -/
theorem eq_ix1_0 (j : S1.Idx) : j = ix1 0 := by
  rw [eq_ix1 j]
  exact congrArg ix1 (Subsingleton.elim (α := Fin 1) _ _)

section Ends
variable {arg2 : Memref sig .tc .vmem S512x5504 .bf16} {arg3 : Memref sig .tc .vmem S512x5504 .bf16} {arg4 : Memref sig .tc .vmem S8x5504 .f32}
  {arg5 : Memref sig .tc .vmem S512x5504 .fp8e5m2} {arg6 : Memref sig .tc .vmem S5504x512 .fp8e5m2} {arg7 : Memref sig .tc .vmem S8x128 .f32}
  {v0 : EReal} {X2 : BufTy.Contents (Elt Ideal) arg2.view.ty} {X3 : BufTy.Contents (Elt Ideal) arg3.view.ty} {f4 g4 : BufTy.Contents (Elt Ideal) arg4.view.ty}
  {g5 : BufTy.Contents (Elt Ideal) arg5.view.ty} {g6 : BufTy.Contents (Elt Ideal) arg6.view.ty} {f7 g7 : BufTy.Contents (Elt Ideal) arg7.view.ty}

/-- After the last chunk: the column sums of the whole block. -/
theorem ends_sums (h : LoopHolds arg2 arg3 arg4 arg5 arg6 arg7 v0 X2 X3 f4 f7 43 g4 g5 g6 g7) :
    View.read (Elt Ideal) arg4.view g4 = sumsOf (View.read (Elt Ideal) arg3.view X3) (View.read (Elt Ideal) arg2.view X2) (View.read (Elt Ideal) arg4.view f4) := by
  funext j
  obtain ⟨s, c', rfl⟩ : ∃ a b, j = ix2 a b := ⟨j 0, j 1, eq_ix2 j⟩
  have := h.sums s c'
  rw [if_pos (by have := c'.isLt; omega)] at this
  exact this

/-- After the last chunk: the codes of the whole block. -/
theorem ends_rows (h : LoopHolds arg2 arg3 arg4 arg5 arg6 arg7 v0 X2 X3 f4 f7 43 g4 g5 g6 g7) :
    View.read (Elt Ideal) arg5.view g5 = codesOf (View.read (Elt Ideal) arg3.view X3) (View.read (Elt Ideal) arg2.view X2) v0 := by
  funext j
  obtain ⟨r, c', rfl⟩ : ∃ a b, j = ix2 a b := ⟨j 0, j 1, eq_ix2 j⟩
  exact h.rows r c' (by have := c'.isLt; omega)

/-- After the last chunk: the transposed codes of the whole block. -/
theorem ends_cols (h : LoopHolds arg2 arg3 arg4 arg5 arg6 arg7 v0 X2 X3 f4 f7 43 g4 g5 g6 g7) :
    View.read (Elt Ideal) arg6.view g6 = codesTOf (View.read (Elt Ideal) arg3.view X3) (View.read (Elt Ideal) arg2.view X2) v0 := by
  funext j
  obtain ⟨c', r, rfl⟩ : ∃ a b, j = ix2 a b := ⟨j 0, j 1, eq_ix2 j⟩
  exact h.cols c' r (by have := c'.isLt; omega)

/-- After the last chunk: the largest magnitudes of the whole block. -/
theorem ends_maxs (h : LoopHolds arg2 arg3 arg4 arg5 arg6 arg7 v0 X2 X3 f4 f7 43 g4 g5 g6 g7) :
    View.read (Elt Ideal) arg7.view g7 = maxsOf (View.read (Elt Ideal) arg3.view X3) (View.read (Elt Ideal) arg2.view X2) (View.read (Elt Ideal) arg7.view f7) := by
  funext j
  obtain ⟨s, l, rfl⟩ : ∃ a b, j = ix2 a b := ⟨j 0, j 1, eq_ix2 j⟩
  refine eq_of_forall_ge_iff fun z => ?_
  rw [maxsOf_le]
  exact h.maxs s l z
end Ends

set_option maxHeartbeats 1000000 in
/-- The body at a point other than the first. -/
theorem run_B (c : Dev nD) (i : grid0.Coords) (arg1 : Memref sig .tc .smem S1 .f32) (harg1 : arg1.IsWhole) (arg2 : Memref sig .tc .vmem S512x5504 .bf16) (harg2 : arg2.IsWhole)
    (arg3 : Memref sig .tc .vmem S512x5504 .bf16) (harg3 : arg3.IsWhole) (arg4 : Memref sig .tc .vmem S8x5504 .f32) (harg4 : arg4.IsWhole)
    (arg5 : Memref sig .tc .vmem S512x5504 .fp8e5m2) (harg5 : arg5.IsWhole) (arg6 : Memref sig .tc .vmem S5504x512 .fp8e5m2) (harg6 : arg6.IsWhole)
    (arg7 : Memref sig .tc .vmem S8x128 .f32) (harg7 : arg7.IsWhole) (hc0 : ¬ cond0_0 i)
    (x0 : Vec Ideal S1 .f32) (x1 x2 : Vec Ideal S512x5504 .bf16) (x3 : Vec Ideal S8x5504 .f32) (x6 : Vec Ideal S8x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare (sumsOf x2 x1 x3) ∗ owns (c : Thread nD τ) arg5 fullShare (codesOf x2 x1 (x0 (ix1 0))) ∗ owns (c : Thread nD τ) arg6 fullShare (codesTOf x2 x1 (x0 (ix1 0))) ∗ owns (c : Thread nD τ) arg7 fullShare (maxsOf x2 x1 x6)) -∗ K ⟨⟩))
          ⊢ wp frame (wpE (defs₀ (F := Ideal)) Variants.none c none) E (cc0_gelu_bwd (F := Ideal) i arg1 harg1 arg2 harg2 arg3 harg3 arg4 harg4 arg5 harg5 arg6 harg6 arg7 harg7) K := by
    intro E K
    simp only [cc0_gelu_bwd_eq_skeleton]; unfold cc0_gelu_bwd_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    have hr : run_B.sl.r c arg1 harg1 x0 = x0 (ix1 0) := by
      unfold run_B.sl.r
      rw [View.readAt_full, hf0]
      exact congrArg x0 (eq_ix1_0 _)
    have hl := loop_holds Variants.none c none i arg1 harg1 arg2 harg2 arg3 harg3 arg4 harg4 arg5 harg5 arg6 harg6 arg7 harg7
      (run_B.sl.r c arg1 harg1 x0) (harg2.unread x1) (harg3.unread x2) f3 f4 f5 f6 k0_t1_loop.trips le_rfl
    rw [trips_eq] at hl
    have h3 := ends_sums hl
    have h4 := ends_rows hl
    have h5 := ends_cols hl
    have h6 := ends_maxs hl
    rw [hf1, hf2, hf3, ← trips_eq] at h3
    rw [hf1, hf2, ← trips_eq] at h4 h5
    rw [hf1, hf2, hf6, ← trips_eq] at h6
    isplitl [H3]
    · iexists _; isplitr; swap; · iexact H3
      ipureintro; exact h3
    isplitl [H4]
    · iexists _; isplitr; swap; · iexact H4
      ipureintro; exact h4.trans (by rw [hr])
    isplitl [H5]
    · iexists _; isplitr; swap; · iexact H5
      ipureintro; exact h5.trans (by rw [hr])
    iexists _; isplitr; swap; · iexact H6
    ipureintro; exact h6

set_option maxHeartbeats 1000000 in
/-- The body at the first point. -/
theorem run_A (c : Dev nD) (i : grid0.Coords) (arg1 : Memref sig .tc .smem S1 .f32) (harg1 : arg1.IsWhole) (arg2 : Memref sig .tc .vmem S512x5504 .bf16) (harg2 : arg2.IsWhole)
    (arg3 : Memref sig .tc .vmem S512x5504 .bf16) (harg3 : arg3.IsWhole) (arg4 : Memref sig .tc .vmem S8x5504 .f32) (harg4 : arg4.IsWhole)
    (arg5 : Memref sig .tc .vmem S512x5504 .fp8e5m2) (harg5 : arg5.IsWhole) (arg6 : Memref sig .tc .vmem S5504x512 .fp8e5m2) (harg6 : arg6.IsWhole)
    (arg7 : Memref sig .tc .vmem S8x128 .f32) (harg7 : arg7.IsWhole) (hc0 : cond0_0 i)
    (x0 : Vec Ideal S1 .f32) (x1 x2 : Vec Ideal S512x5504 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare (sumsOf x2 x1 fun _ => 0) ∗ owns (c : Thread nD τ) arg5 fullShare (codesOf x2 x1 (x0 (ix1 0))) ∗ owns (c : Thread nD τ) arg6 fullShare (codesTOf x2 x1 (x0 (ix1 0))) ∗ owns (c : Thread nD τ) arg7 fullShare (maxsOf x2 x1 fun _ => 0)) -∗ K ⟨⟩))
          ⊢ wp frame (wpE (defs₀ (F := Ideal)) Variants.none c none) E (cc0_gelu_bwd (F := Ideal) i arg1 harg1 arg2 harg2 arg3 harg3 arg4 harg4 arg5 harg5 arg6 harg6 arg7 harg7) K := by
    intro E K
    simp only [cc0_gelu_bwd_eq_skeleton]; unfold cc0_gelu_bwd_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    have hr : run_A.sl.r c arg1 harg1 x0 = x0 (ix1 0) := by
      unfold run_A.sl.r
      rw [View.readAt_full, hf0]
      exact congrArg x0 (eq_ix1_0 _)
    have hf3 : View.read (Elt Ideal) arg4.view (arg4.view.writes (Elt Ideal) arg4.view.junk run_A.sl.H3_1) = fun _ => (0 : EReal) := by
      unfold run_A.sl.H3_1
      rw [View.read_writes_full]
      exact funext pay1_at
    have hf6 : View.read (Elt Ideal) arg7.view (arg7.view.writes (Elt Ideal) arg7.view.junk run_A.sl.H6_1) = fun _ => (0 : EReal) := by
      unfold run_A.sl.H6_1
      rw [View.read_writes_full]
      exact funext pay2_at
    have hl := loop_holds Variants.none c none i arg1 harg1 arg2 harg2 arg3 harg3 arg4 harg4 arg5 harg5 arg6 harg6 arg7 harg7
      (run_A.sl.r c arg1 harg1 x0) (harg2.unread x1) (harg3.unread x2)
      (arg4.view.writes (Elt Ideal) arg4.view.junk run_A.sl.H3_1) f4 f5 (arg7.view.writes (Elt Ideal) arg7.view.junk run_A.sl.H6_1) k0_t1_loop.trips le_rfl
    rw [trips_eq] at hl
    have h3 := ends_sums hl
    have h4 := ends_rows hl
    have h5 := ends_cols hl
    have h6 := ends_maxs hl
    rw [hf1, hf2, hf3, ← trips_eq, ← View.writes_append] at h3
    rw [hf1, hf2, ← trips_eq] at h4 h5
    rw [hf1, hf2, hf6, ← trips_eq, ← View.writes_append] at h6
    isplitl [H3]
    · iexists _; isplitr; swap; · iexact H3
      ipureintro; exact h3
    isplitl [H4]
    · iexists _; isplitr; swap; · iexact H4
      ipureintro; exact h4.trans (by rw [hr])
    isplitl [H5]
    · iexists _; isplitr; swap; · iexact H5
      ipureintro; exact h5.trans (by rw [hr])
    iexists _; isplitr; swap; · iexact H6
    ipureintro; exact h6

end Cert.KernelIdeal.Hand
-- ==== Proof.Body.lean ====
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What each point leaves -/

/-- Block number `n` of the incoming gradient. -/
def gBlk (c : Dev nD) (n : ℕ) : Blk := if h : n < cfg0.N then iblk m c 1 ⟨n, h⟩ else fun _ => 0
/-- Block number `n` of the forward input. -/
def xBlk (c : Dev nD) (n : ℕ) : Blk := if h : n < cfg0.N then iblk m c 2 ⟨n, h⟩ else fun _ => 0

theorem gBlk_of (c : Dev nD) (t : Fin cfg0.N) : gBlk m c t.val = iblk m c 1 t := dif_pos t.isLt
theorem xBlk_of (c : Dev nD) (t : Fin cfg0.N) : xBlk m c t.val = iblk m c 2 t := dif_pos t.isLt

/-- The column sums after point `n`. -/
def sumsAt (c : Dev nD) : ℕ → S8x5504.Idx → EReal
  | 0 => sumsOf (xBlk m c 0) (gBlk m c 0) fun _ => 0
  | n + 1 => sumsOf (xBlk m c (n + 1)) (gBlk m c (n + 1)) (sumsAt c n)

/-- The largest magnitudes after point `n`. -/
def maxsAt (c : Dev nD) : ℕ → S8x128.Idx → EReal
  | 0 => maxsOf (xBlk m c 0) (gBlk m c 0) fun _ => 0
  | n + 1 => maxsOf (xBlk m c (n + 1)) (gBlk m c (n + 1)) (maxsAt c n)

theorem sumsAt_pos (c : Dev nD) (n : ℕ) (h : n ≠ 0) : sumsAt m c n = sumsOf (xBlk m c n) (gBlk m c n) (sumsAt m c (n - 1)) := by
  cases n with
  | zero => exact absurd rfl h
  | succ n => rfl

theorem maxsAt_pos (c : Dev nD) (n : ℕ) (h : n ≠ 0) : maxsAt m c n = maxsOf (xBlk m c n) (gBlk m c n) (maxsAt m c (n - 1)) := by
  cases n with
  | zero => exact absurd rfl h
  | succ n => rfl

/-- The factor the gradient is multiplied by, as the body loads it at point `t`. -/
def invAt (c : Dev nD) (t : Fin cfg0.N) : EReal := (show Vec Ideal S1 .f32 from iblk m c 0 t) (ix1 0)

/-- The pipeline's proof data: the inputs at their blocks, the two accumulators at the running sums and maxima, the two code arrays at the codes of the block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => sumsAt m c t.val
    | ⟨4, _⟩ => codesOf (xBlk m c t.val) (gBlk m c t.val) (invAt m c t)
    | ⟨5, _⟩ => codesTOf (xBlk m c t.val) (gBlk m c t.val) (invAt m c t)
    | ⟨6, _⟩ => maxsAt m c t.val
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = sumsAt m c t.val := by dsimp only [dats]
theorem after0_4 (c : Dev nD) (t : Fin cfg0.N) : (dats m 0 c).after 4 t = codesOf (xBlk m c t.val) (gBlk m c t.val) (invAt m c t) := by dsimp only [dats]
theorem after0_5 (c : Dev nD) (t : Fin cfg0.N) : (dats m 0 c).after 5 t = codesTOf (xBlk m c t.val) (gBlk m c t.val) (invAt m c t) := by dsimp only [dats]
theorem after0_6 (c : Dev nD) (t : Fin cfg0.N) : (dats m 0 c).after 6 t = maxsAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The accumulators are written back at the last point only, so in between each holds what the point before left. -/
theorem before0_3 (c : Dev nD) (t : Fin cfg0.N) (h : ¬ t.val % 70 = 0) (d) : (dats m 0 c).before 3 t d = sumsAt m c (t.val - 1) := by
  have hN : t.val < 70 := lt_of_lt_of_eq t.isLt (show cfg0.N = 70 from N_0)
  rw [(dats m 0 c).before_out_kept 3 rfl t (by omega)
    (Bool.eq_false_iff.mpr fun hf => by have := (flush0_3 _).mp hf; simp only at this; omega) (fun _ => rfl) (fun _ _ => rfl) d, after0_3]
theorem before0_6 (c : Dev nD) (t : Fin cfg0.N) (h : ¬ t.val % 70 = 0) (d) : (dats m 0 c).before 6 t d = maxsAt m c (t.val - 1) := by
  have hN : t.val < 70 := lt_of_lt_of_eq t.isLt (show cfg0.N = 70 from N_0)
  rw [(dats m 0 c).before_out_kept 6 rfl t (by omega)
    (Bool.eq_false_iff.mpr fun hf => by have := (flush0_6 _).mp hf; simp only at this; omega) (fun _ => rfl) (fun _ _ => rfl) d, after0_6]

/-! ## The body obligation -/

abbrev ms0_0 (t : Fin cfg0.N) : Memref sig .tc .smem S1 .f32 := win0_0.stage (cfg0.slots t 0)
abbrev ms0_1 (t : Fin cfg0.N) : Memref sig .tc .vmem S512x5504 .bf16 := win0_1.stage (cfg0.slots t 1)
abbrev ms0_2 (t : Fin cfg0.N) : Memref sig .tc .vmem S512x5504 .bf16 := win0_2.stage (cfg0.slots t 2)
abbrev ms0_3 (t : Fin cfg0.N) : Memref sig .tc .vmem S8x5504 .f32 := win0_3.stage (cfg0.slots t 3)
abbrev ms0_4 (t : Fin cfg0.N) : Memref sig .tc .vmem S512x5504 .fp8e5m2 := win0_4.stage (cfg0.slots t 4)
abbrev ms0_5 (t : Fin cfg0.N) : Memref sig .tc .vmem S5504x512 .fp8e5m2 := win0_5.stage (cfg0.slots t 5)
abbrev ms0_6 (t : Fin cfg0.N) : Memref sig .tc .vmem S8x128 .f32 := win0_6.stage (cfg0.slots t 6)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1000000 in
/-- The body at any point: the first point resets the accumulators, every other one adds to what the point before left. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 70 := lt_of_lt_of_eq t.isLt (show cfg0.N = 70 from N_0)
  by_cases h0 : t.val % 70 = 0
  · have ht : t.val = 0 := by omega
    rw [show sumsAt m c t.val = sumsOf (xBlk m c t.val) (gBlk m c t.val) (fun _ => 0) from by rw [ht]; rfl,
      show maxsAt m c t.val = maxsOf (xBlk m c t.val) (gBlk m c t.val) (fun _ => 0) from by rw [ht]; rfl, xBlk_of, gBlk_of]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_A c (grid0.coords t) _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [sumsAt_pos m c t.val (by omega), maxsAt_pos m c t.val (by omega), xBlk_of, gBlk_of]
    simp only [before0_3 m c t h0, before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_B c (grid0.coords t) _ _ _ _ _ _ _ _ _ _ _ _ _ _ (fun h => h0 ((hcond0_0 t).mp h)) (iblk m c 0 t) (iblk m c 1 t) (iblk m c 2 t)
      (sumsAt m c (t.val - 1)) (maxsAt m c (t.val - 1))) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every execution ends, with the arrays as the proof data name them, the host operations after the call applied, and every semaphore at zero. -/
theorem run_main_quiescent : θ_run defs (onTc (τ := τ) (main (F := Ideal))) (s₀ m ρ)
    (fun r => (Pipeline.FramePost cfgs (dats m) 0 (Pipeline.afterTail₀ cfgs (dats m) 0 (V0 m) [hostOps1, hostOps1_1, hostOps1_2])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

theorem run_main : θ_run defs (onTc (τ := τ) (main (F := Ideal))) (s₀ m ρ)
    (Pipeline.FramePost cfgs (dats m) 0 (Pipeline.afterTail₀ cfgs (dats m) 0 (V0 m) [hostOps1, hostOps1_1, hostOps1_2])) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every execution ends with the arguments unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (unchanged m ρ) ((θ_run defs _ _).mono (fun _ h => h.2) (run_main_quiescent m ρ))

end Cert.KernelIdeal.Hand
-- ==== Proof.KArrays.lean ====
module

public import proofs.«01_k».proof.Proof.Body
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-- The block indices of the blocked windows: the point's number along the rows (of the transposed codes, along the columns). -/
theorem idx : ∀ t : Fin cfg0.N, win0_0.index t = ![0] ∧ win0_1.index t = ![t.val, 0] ∧ win0_2.index t = ![t.val, 0] ∧ win0_3.index t = ![0, 0] ∧ win0_4.index t = ![t.val, 0] ∧ win0_5.index t = ![0, t.val] ∧ win0_6.index t = ![0, 0] :=
  (by decide +kernel : ∀ t : Fin grid0.N, _)

/-- The gradient at row `r`, column `q` of whole arrays, by natural numbers (0 outside). -/
def dN (X G : S35840x5504.Idx → EReal) (r q : ℕ) : EReal :=
  if h : r < 35840 ∧ q < 5504 then dval (X (ix2 ⟨r, h.1⟩ ⟨q, h.2⟩)) (G (ix2 ⟨r, h.1⟩ ⟨q, h.2⟩)) else 0

theorem dN_of (X G : S35840x5504.Idx → EReal) (r : Fin 35840) (q : Fin 5504) : dN X G r q = dval (X (ix2 r q)) (G (ix2 r q)) := by
  unfold dN
  rw [dif_pos ⟨r.isLt, q.isLt⟩]

/-- The gradient array the region finds. -/
abbrev Garr (c : Dev nD) : S35840x5504.Idx → EReal := m ((c : Thread nD τ).loc main_arg0)
/-- The forward input the region finds. -/
abbrev Xarr (c : Dev nD) : S35840x5504.Idx → EReal := m ((c : Thread nD τ).loc main_arg1)

theorem gBlk_at (c : Dev nD) (t : Fin cfg0.N) (r : Fin 512) (q : Fin 5504) (h : 512 * t.val + r.val < 35840) :
    gBlk m c t.val (ix2 r q) = Garr m c (ix2 ⟨512 * t.val + r.val, h⟩ q) := by
  rw [gBlk_of]
  show iblk m c 1 t (ix2 r q) = _
  have e : (iblk m c 1 t : Blk) = fun j => m ((c : Thread nD τ).loc main_arg0) (((cfg0.win 1).blk t).view.emb j) := by
    unfold iblk
    show View.read (Elt Ideal) ((cfg0.win 1).blk t).view (V m c main_arg0) = _
    rw [V_main_arg0]
    rfl
  rw [e]
  blk_ext [(idx t).2.1]

theorem xBlk_at (c : Dev nD) (t : Fin cfg0.N) (r : Fin 512) (q : Fin 5504) (h : 512 * t.val + r.val < 35840) :
    xBlk m c t.val (ix2 r q) = Xarr m c (ix2 ⟨512 * t.val + r.val, h⟩ q) := by
  rw [xBlk_of]
  show iblk m c 2 t (ix2 r q) = _
  have e : (iblk m c 2 t : Blk) = fun j => m ((c : Thread nD τ).loc main_arg1) (((cfg0.win 2).blk t).view.emb j) := by
    unfold iblk
    show View.read (Elt Ideal) ((cfg0.win 2).blk t).view (V m c main_arg1) = _
    rw [V_main_arg1]
    rfl
  rw [e]
  blk_ext [(idx t).2.2.1]

/-- The gradient of a block is the whole array's, at the block's rows. -/
theorem dB_blk (c : Dev nD) (n : ℕ) (hn : n < 70) (r q : ℕ) (hr : r < 512) (hq : q < 5504) :
    dB (xBlk m c n) (gBlk m c n) r q = dN (Xarr m c) (Garr m c) (512 * n + r) q := by
  have h : 512 * n + r < 35840 := by omega
  have hN : n < cfg0.N := hn
  rw [show dB (xBlk m c n) (gBlk m c n) r q = _ from dB_of (xBlk m c n) (gBlk m c n) hr hq,
    xBlk_at m c ⟨n, hN⟩ ⟨r, hr⟩ ⟨q, hq⟩ h, gBlk_at m c ⟨n, hN⟩ ⟨r, hr⟩ ⟨q, hq⟩ h]
  exact (dN_of _ _ ⟨_, h⟩ ⟨q, hq⟩).symm

/-- The running column sums in closed form. -/
theorem sumsAt_eq (c : Dev nD) (n : ℕ) (hn : n < 70) (s : Fin 8) (q : Fin 5504) :
    sumsAt m c n (ix2 s q) = ∑ i ∈ Finset.range (64 * (n + 1)), dN (Xarr m c) (Garr m c) (8 * i + s) q := by
  have step : ∀ k < 70, ∑ i ∈ Finset.range 64, dB (xBlk m c k) (gBlk m c k) (8 * i + s) q
      = ∑ i ∈ Finset.range 64, dN (Xarr m c) (Garr m c) (8 * (64 * k + i) + s) q := fun k hk =>
    Finset.sum_congr rfl fun i hi => by
      have := Finset.mem_range.mp hi
      rw [dB_blk m c k hk _ _ (by omega) q.isLt]
      congr 1; omega
  induction n with
  | zero =>
    show (0 : EReal) + ∑ i ∈ Finset.range 64, dB (xBlk m c 0) (gBlk m c 0) (8 * i + s) q = _
    rw [zero_add, step 0 (by omega)]
    refine Finset.sum_congr rfl fun i _ => ?_
    rw [show 64 * 0 + i = i by omega]
  | succ n ih =>
    show sumsAt m c n (ix2 s q) + ∑ i ∈ Finset.range 64, dB (xBlk m c (n + 1)) (gBlk m c (n + 1)) (8 * i + s) q = _
    rw [ih (by omega), step _ hn, show 64 * (n + 1 + 1) = 64 * (n + 1) + 64 by omega, Finset.sum_range_add]

/-- What bounds the running maxima. -/
theorem maxsAt_le (c : Dev nD) (n : ℕ) (hn : n < 70) (s : Fin 8) (l : Fin 128) (z : EReal) :
    maxsAt m c n (ix2 s l) ≤ z ↔ 0 ≤ z ∧ ∀ k < 43, ∀ i < 64 * (n + 1), aval (dN (Xarr m c) (Garr m c) (8 * i + s) (128 * k + l)) ≤ z := by
  have step : ∀ b < 70, (∀ k < 43, ∀ i < 64, aval (dB (xBlk m c b) (gBlk m c b) (8 * i + s) (128 * k + l)) ≤ z) ↔
      ∀ k < 43, ∀ i < 64, aval (dN (Xarr m c) (Garr m c) (8 * (64 * b + i) + s) (128 * k + l)) ≤ z := fun b hb => by
    refine forall_congr' fun k => forall_congr' fun hk => forall_congr' fun i => forall_congr' fun hi => ?_
    rw [dB_blk m c b hb _ _ (by omega) (by omega), show 512 * b + (8 * i + s.val) = 8 * (64 * b + i) + s by omega]
  induction n with
  | zero =>
    rw [show maxsAt m c 0 = maxsOf (xBlk m c 0) (gBlk m c 0) (fun _ => 0) from rfl, maxsOf_le]
    refine and_congr Iff.rfl ((step 0 (by omega)).trans ?_)
    refine forall_congr' fun k => forall_congr' fun hk => forall_congr' fun i => ?_
    rw [show 64 * 0 + i = i by omega, show 64 * (0 + 1) = 64 by omega]
  | succ n ih =>
    have ih' := ih (by omega)
    rw [show maxsAt m c (n + 1) = maxsOf (xBlk m c (n + 1)) (gBlk m c (n + 1)) (maxsAt m c n) from rfl, maxsOf_le]
    refine ((and_congr ih' Iff.rfl).trans and_assoc).trans (and_congr Iff.rfl ?_)
    refine (and_congr Iff.rfl (step (n + 1) hn)).trans ⟨fun ⟨h1, h2⟩ k hk i hi => ?_, fun h => ⟨fun k hk i hi => h k hk i (by omega), fun k hk i hi => h k hk _ (by omega)⟩⟩
    by_cases hlt : i < 64 * (n + 1)
    · exact h1 k hk i hlt
    · have := h2 k hk (i - 64 * (n + 1)) (by omega)
      rwa [show 64 * (n + 1) + (i - 64 * (n + 1)) = i by omega] at this

/-- The factor is one number, the same at every point. -/
theorem invAt_eq (c : Dev nD) (t : Fin cfg0.N) : invAt m c t = (V m c main_v28 : S1.Idx → EReal) (ix1 0) := by
  unfold invAt
  show (V m c main_v28 : S1.Idx → EReal) (((cfg0.win 0).blk t).view.emb (ix1 0)) = _
  blk_ext [(idx t).1]

/-! ## The arrays after the region -/

/-- The last point. -/
def tLast : Fin cfg0.N := ⟨69, by decide⟩

theorem final3 (c : Dev nD) : (dats m 0 c).arrAt 3 (cfgs 0).N
    = fun j : S8x5504.Idx => ∑ i ∈ Finset.range 4480, dN (Xarr m c) (Garr m c) (8 * i + (j 0).val) (j 1).val := by
  refine (dats m 0 c).arrAt_eq_of_after_last 3 tLast (by decide +kernel) _ fun j => ?_
  blk_simp
  show (dats m 0 c).after 3 tLast j = _
  rw [after0_3]
  obtain ⟨s, q, rfl⟩ : ∃ (s : Fin 8) (q : Fin 5504), j = ix2 s q := ⟨j 0, j 1, eq_ix2 j⟩
  exact sumsAt_eq m c 69 (by omega) s q

theorem final6 (c : Dev nD) : (dats m 0 c).arrAt 6 (cfgs 0).N = maxsAt m c 69 := by
  refine (dats m 0 c).arrAt_eq_of_after_last 6 tLast (by decide +kernel) _ fun j => ?_
  blk_simp
  show (dats m 0 c).after 6 tLast j = _
  rw [after0_6]
  rfl

theorem final4 (c : Dev nD) : (dats m 0 c).arrAt 4 (cfgs 0).N
    = fun j : S35840x5504.Idx => qval (dN (Xarr m c) (Garr m c) (j 0).val (j 1).val) ((V m c main_v28 : S1.Idx → EReal) (ix1 0)) := by
  refine (dats m 0 c).arrAt_eq_of_covers 4 _ (by decide +kernel) fun t _ y => ?_
  have hN : t.val < 70 := lt_of_lt_of_eq t.isLt (show cfg0.N = 70 from N_0)
  blk_simp [idx t]
  rw [after0_4, invAt_eq]
  obtain ⟨s, q, rfl⟩ : ∃ (s : Fin 512) (q : Fin 5504), y = ix2 s q := ⟨y 0, y 1, eq_ix2 y⟩
  show qval (dB (xBlk m c t.val) (gBlk m c t.val) s.val q.val) _ = _
  rw [dB_blk m c t.val hN _ _ s.isLt q.isLt]
  rw [Nat.mul_comm 512 t.val]
  rfl

theorem final5 (c : Dev nD) : (dats m 0 c).arrAt 5 (cfgs 0).N
    = fun j : S5504x35840.Idx => qval (dN (Xarr m c) (Garr m c) (j 1).val (j 0).val) ((V m c main_v28 : S1.Idx → EReal) (ix1 0)) := by
  refine (dats m 0 c).arrAt_eq_of_covers 5 _ (by decide +kernel) fun t _ y => ?_
  have hN : t.val < 70 := lt_of_lt_of_eq t.isLt (show cfg0.N = 70 from N_0)
  blk_simp [idx t]
  rw [after0_5, invAt_eq]
  obtain ⟨q, s, rfl⟩ : ∃ (q : Fin 5504) (s : Fin 512), y = ix2 q s := ⟨y 0, y 1, eq_ix2 y⟩
  show qval (dB (xBlk m c t.val) (gBlk m c t.val) s.val q.val) _ = _
  rw [dB_blk m c t.val hN _ _ s.isLt q.isLt]
  rw [Nat.mul_comm 512 t.val]
  rfl

end Cert.KernelIdeal.Hand
-- ==== Proof.KValue.lean ====
module

public import proofs.«01_k».proof.Proof.KArrays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

theorem tail_v30 (W : Valuation τ sig (Elt Ideal)) : StableHlo.after (List.flatten [hostOps1 (F := Ideal), hostOps1_1, hostOps1_2]) W (Proc.devRef .tc main_v30)
    = Host.reduceAdd (F := Ideal) (W (Proc.devRef .tc main_v29_0)) (constant S_ .f32 0x00000000#32) reducesTo_S8x5504_S5504_d0 h_S_ := by
  unfold hostOps1 hostOps1_1 hostOps1_2
  simp only [List.flatten_cons, List.flatten_nil, List.cons_append, List.nil_append]
  after_results

/-- The history moved on by one place, with a new first entry. -/
def newHist (h : FVec Ideal S16 .f32) (a : FVec Ideal S_ .f32) : FVec Ideal S16 .f32 :=
  Host.scatter scatter_S16_S1_S__n_0_0_0 (fun _ b => b)
    (concatenate S16 0 [⟨S1, extractStridedSlice S1 ![15] h slices_S16_S1_15⟩, ⟨S15, extractStridedSlice S15 ![0] h slices_S16_S15_0⟩] concatenates_S1_S15_S16_d0)
    (broadcastInDim S1 ![] bcast_S_S1 (constantI S_ 32 0#32)) a

/-- The greatest entry of the maxima's array. -/
def amaxOf (a : FVec Ideal S8x128 .f32) : FVec Ideal S_ .f32 := Host.reduce FloatOps.maximumf a (constant S_ .f32 0xFF800000#32) reducesTo_S8x128_S_d0_1 h_S_

theorem tail_v34 (W : Valuation τ sig (Elt Ideal)) : StableHlo.after (List.flatten [hostOps1 (F := Ideal), hostOps1_1, hostOps1_2]) W (Proc.devRef .tc main_v34)
    = newHist (W (Proc.devRef .tc main_arg2)) (amaxOf (W (Proc.devRef .tc main_v29_3))) := by
  unfold hostOps1 hostOps1_1 hostOps1_2
  simp only [List.flatten_cons, List.flatten_nil, List.cons_append, List.nil_append]
  after_results
  simp only [StableHlo.TRef.ofBuf_toBuf]
  rfl

theorem tail_v23 (W : Valuation τ sig (Elt Ideal)) : StableHlo.after (List.flatten [hostOps1 (F := Ideal), hostOps1_1, hostOps1_2]) W (Proc.devRef .tc main_v23)
    = W (Proc.devRef .tc main_v23) := by
  unfold hostOps1 hostOps1_1 hostOps1_2
  simp only [List.flatten_cons, List.flatten_nil, List.cons_append, List.nil_append]
  after_results

/-- The largest entry of the history. -/
def histMax (h : FVec Ideal S16 .f32) : FVec Ideal S_ .f32 := Host.reduce FloatOps.maximumf h (constant S_ .f32 0xFF800000#32) reducesTo_S16_S_d0 h_S_

/-- The magnitude whose exponent is taken. -/
def ratio (h : FVec Ideal S16 .f32) : FVec Ideal S_ .f32 := Host.absf (F := Ideal) (mulf (F := Ideal) (φ := .f32) (histMax h) (constant S_ .f32 0x37924925#32))

/-- How many of the 254 normal powers of two it reaches. -/
def reached (h : FVec Ideal S16 .f32) : IVec S_ 32 :=
  Host.reduce IntOp.addi (extui 32 (cmpf (F := Ideal) (φ := .f32) .oge (broadcastInDim S254 ![] bcast_S_S254 (ratio h))
    (bitcastToFloat (F := Ideal) .f32 (Host.shli (addi (broadcastInDim S254 ![] bcast_S_S254 (constantI S_ 32 1#32)) (iotaInDim S254 32 0)) (broadcastInDim S254 ![] bcast_S_S254 (constantI S_ 32 23#32))))) natLt_1_32)
    (constantI S_ 32 0#32) reducesTo_S254_S_d0 h_S_

/-- The exponent of the scale, as the kernel's host lines compute it. -/
def expo (h : FVec Ideal S16 .f32) : IVec S_ 32 :=
  select (cmpf (F := Ideal) (φ := .f32) .oeq (histMax h) (constant S_ .f32 0x00000000#32)) (constantI S_ 32 0#32)
    (select (ori (cmpi .eq (reached h) (constantI S_ 32 0#32)) (cmpf (F := Ideal) (φ := .f32) .oeq (ratio h) (constant S_ .f32 0x7F800000#32)))
      (constantI S_ 32 0#32) (subi (reached h) (constantI S_ 32 126#32)))

/-- The number whose exponent field is `e + 127`. -/
def pow2 (e : IVec S_ 32) : FVec Ideal S_ .f32 := bitcastToFloat (F := Ideal) .f32 (Host.shli (addi e (constantI S_ 32 127#32)) (constantI S_ 32 23#32))

theorem pre_v23 (W : Valuation τ sig (Elt Ideal)) : StableHlo.after (List.flatten [hostOps0 (F := Ideal), hostOps0_1, hostOps0_2, hostOps0_3, hostOps0_4]) W (Proc.devRef .tc main_v23)
    = pow2 (expo (W (Proc.devRef .tc main_arg2))) := by
  unfold hostOps0 hostOps0_1 hostOps0_2 hostOps0_3 hostOps0_4
  simp only [List.flatten_cons, List.flatten_nil, List.cons_append, List.nil_append]
  after_results
  simp only [StableHlo.TRef.ofBuf_toBuf]
  rfl

theorem pre_v28 (W : Valuation τ sig (Elt Ideal)) : StableHlo.after (List.flatten [hostOps0 (F := Ideal), hostOps0_1, hostOps0_2, hostOps0_3, hostOps0_4]) W (Proc.devRef .tc main_v28)
    = shapeCast S1 (pow2 (negi (expo (W (Proc.devRef .tc main_arg2))))) shapeCasts_S_S1 := by
  unfold hostOps0 hostOps0_1 hostOps0_2 hostOps0_3 hostOps0_4
  simp only [List.flatten_cons, List.flatten_nil, List.cons_append, List.nil_append]
  after_results
  simp only [StableHlo.TRef.ofBuf_toBuf]
  rfl

/-- The history the call is given. -/
abbrev Harr (c : Dev nD) : FVec Ideal S16 .f32 := m ((c : Thread nD τ).loc main_arg2)

/-- The factor every point multiplies by. -/
def invK (c : Dev nD) : EReal := pow2 (negi (expo (Harr m c))) (Shape.Idx.first h_S_)

theorem V_v28 (c : Dev nD) : (V m c main_v28 : S1.Idx → EReal) (ix1 0) = invK m c := by
  show StableHlo.after (List.flatten [hostOps0 (F := Ideal), hostOps0_1, hostOps0_2, hostOps0_3, hostOps0_4]) (fun b => m (c, b)) (Proc.devRef .tc main_v28) (ix1 0) = _
  rw [pre_v28]
  unfold invK shapeCast
  exact congrArg _ (Subsingleton.elim (α := S_.Idx) _ _)

theorem V_v23 (c : Dev nD) : V m c main_v23 = pow2 (expo (Harr m c)) :=
  pre_v23 (fun b => m (c, b))

/-- The kernel's sum over its eight partial rows. -/
def dbiasK (c : Dev nD) : FVec Ideal S5504 .f32 :=
  Host.reduceAdd (F := Ideal) (φ := .f32) (fun j : S8x5504.Idx => ∑ i ∈ Finset.range 4480, dN (Xarr m c) (Garr m c) (8 * i + (j 0).val) (j 1).val) (constant S_ .f32 0x00000000#32) reducesTo_S8x5504_S5504_d0 h_S_

theorem arr_inj : Function.Injective (Pipeline.arrRef spec0) := by decide

theorem out_v30 (c : Dev nD) : Pipeline.afterTail₀ cfgs (dats m) 0 (V0 m) [hostOps1, hostOps1_1, hostOps1_2] c main_v30 = dbiasK m c := by
  unfold Pipeline.afterTail₀
  rw [tail_v30]
  have e := Pipeline.withArrays_arr spec0 arr_inj c (V0 m c) (fun w => (dats m 0 c).arrAt w (cfgs 0).N) 3
  unfold dbiasK
  rw [← final3]
  exact congrArg (fun x => Host.reduceAdd (F := Ideal) x _ _ _) e

theorem out_v23 (c : Dev nD) : Pipeline.afterTail₀ cfgs (dats m) 0 (V0 m) [hostOps1, hostOps1_1, hostOps1_2] c main_v23 = pow2 (expo (Harr m c)) := by
  unfold Pipeline.afterTail₀
  rw [tail_v23, Pipeline.withArrays_of_ne _ c (V0 m c) _ main_v23 (by exact (by decide : ∀ w, Pipeline.arrRef spec0 w ≠ main_v23))]
  exact V_v23 m c

theorem out_v34 (c : Dev nD) : Pipeline.afterTail₀ cfgs (dats m) 0 (V0 m) [hostOps1, hostOps1_1, hostOps1_2] c main_v34 = newHist (Harr m c) (amaxOf (maxsAt m c 69)) := by
  unfold Pipeline.afterTail₀
  rw [tail_v34, Pipeline.withArrays_of_ne _ c (V0 m c) _ main_arg2 (by exact (by decide : ∀ w, Pipeline.arrRef spec0 w ≠ main_arg2))]
  have e := Pipeline.withArrays_arr spec0 arr_inj c (V0 m c) (fun w => (dats m 0 c).arrAt w (cfgs 0).N) 6
  rw [← final6]
  exact congrArg₂ newHist (V_main_arg2 m c) (congrArg amaxOf e)

variable (ρ : Dev nD → PrngReg)

/-- The kernel's run, its five results named. -/
theorem run_values : θ_run defs (onTc (τ := τ) (main (F := Ideal))) ⟨m, fun _ => 0, ρ⟩ (fun r => ∀ c : Dev nD,
      r.2.mem ((c.tc : Thread nD τ).loc main_v30) = dbiasK m c
      ∧ r.2.mem ((c.tc : Thread nD τ).loc main_v29_1) = (fun j : S35840x5504.Idx => qval (dN (Xarr m c) (Garr m c) (j 0).val (j 1).val) (invK m c))
      ∧ r.2.mem ((c.tc : Thread nD τ).loc main_v29_2) = (fun j : S5504x35840.Idx => qval (dN (Xarr m c) (Garr m c) (j 1).val (j 0).val) (invK m c))
      ∧ r.2.mem ((c.tc : Thread nD τ).loc main_v23) = pow2 (expo (Harr m c))
      ∧ r.2.mem ((c.tc : Thread nD τ).loc main_v34) = newHist (Harr m c) (amaxOf (maxsAt m c 69))) :=
  (θ_run defs _ _).mono (fun _ h c => ⟨
    ((h c).2 main_v30 (Pipeline.mem_restRefs_of main_v30 (by decide) (by decide))).trans (out_v30 m c),
    ((h c).1 4).trans ((final4 m c).trans (by rw [V_v28])),
    ((h c).1 5).trans ((final5 m c).trans (by rw [V_v28])),
    ((h c).2 main_v23 (Pipeline.mem_restRefs_of main_v23 (by decide) (by decide))).trans (out_v23 m c),
    ((h c).2 main_v34 (Pipeline.mem_restRefs_of main_v34 (by decide) (by decide))).trans (out_v34 m c)⟩) (run_main m ρ)

end Cert.KernelIdeal.Hand
-- ==== Proof.Scale.lean ====
/- The scale: the kernel counts the powers of two below the history's magnitude and writes an exponent field; the reference
   takes the floor of a logarithm and an exponential. On a history whose entries are of a 32-bit float's range both are one
   power of two. -/
module

public import proofs.«01_k».proof.Proof.KValue
public import proofs.«01_k».proof.Proof.RValue

@[expose] public section

set_option maxRecDepth 16384

noncomputable section

namespace Cert.Hand

open Idealize.ShloMosaic Idealize.ShloMosaic.Tactic

/-! ## Powers of two as words -/

theorem word_fields : ∀ k : Fin 255, ((BitVec.ofNat 32 k.val <<< 23).extractLsb' (8 + 23) 1 == 1#1) = false ∧ ((BitVec.ofNat 32 k.val <<< 23).extractLsb' 23 8).toNat = k.val
    ∧ ((BitVec.ofNat 32 k.val <<< 23).extractLsb' 0 23).toNat = 0 := by
  decide +kernel

theorem ieee_of (w : BitVec 32) (k : ℕ) (a : (w.extractLsb' (8 + 23) 1 == 1#1) = false) (b : (w.extractLsb' 23 8).toNat = k) (c : (w.extractLsb' 0 23).toNat = 0)
    (h1 : 1 ≤ k) (h2 : k ≤ 254) : Ideal.ieee 8 23 w = (((2 : ℝ) ^ ((k : ℤ) - 127) : ℝ) : EReal) := by
  unfold Ideal.ieee
  dsimp only
  rw [a, b, c, if_neg (by norm_num; omega), if_neg (by omega)]
  congr 1
  have e : (((2 ^ 23 + 0 : ℕ)) : ℝ) = (2 : ℝ) ^ (23 : ℤ) := by norm_num
  rw [e, if_neg (by decide), one_mul, ← zpow_add₀ two_ne_zero]
  congr 1
  norm_num

/-- The word whose exponent field is `k` and whose other bits are zero is `2 ^ (k - 127)`. -/
theorem ofBits_pow (k : ℕ) (h1 : 1 ≤ k) (h2 : k ≤ 254) : (Ideal.ofBits .f32 (BitVec.ofNat 32 k <<< 23) : EReal) = (((2 : ℝ) ^ ((k : ℤ) - 127) : ℝ) : EReal) := by
  obtain ⟨a, b, c⟩ := word_fields ⟨k, by omega⟩
  exact ieee_of _ k a b c h1 h2

theorem bits_least : (Ideal.ofBits .f32 8388608#32 : EReal) = (((2 : ℝ) ^ (-126 : ℤ) : ℝ) : EReal) :=
  (ofBits_pow 1 (by omega) (by omega)).trans (by norm_num)

theorem bits_two : (Ideal.ofBits .f32 1073741824#32 : EReal) = ((2 : ℝ) : EReal) :=
  (ofBits_pow 128 (by omega) (by omega)).trans (by norm_num)

theorem bits_top : (Ideal.ofBits .f32 2139095040#32 : EReal) = ⊤ := by simp [Ideal.ofBits, Ideal.ieee]

theorem bits_bot : (Ideal.ofBits .f32 4286578688#32 : EReal) = ⊥ := by simp [Ideal.ofBits, Ideal.ieee]

theorem bits_q : ∃ q : ℝ, (Ideal.ofBits .f32 932333861#32 : EReal) = (q : EReal) ∧ 0 < q ∧ q ≤ (2 : ℝ) ^ (-15 : ℤ) := by
  refine ⟨_, by simp [Ideal.ofBits, Ideal.ieee]; rw [← EReal.coe_mul], ?_, ?_⟩ <;> norm_num

theorem bits_max : ∃ M : ℝ, (Ideal.ofBits .f32 2139095039#32 : EReal) = (M : EReal) ∧ M < (2 : ℝ) ^ (128 : ℤ) := by
  refine ⟨16777215 * 2 ^ 104, ?_, by norm_num⟩
  simp [Ideal.ofBits, Ideal.ieee]

/-! ## The count -/

theorem fold_count {n : ℕ} (p : Fin n → Bool) (s : Finset (Fin n)) :
    Finset.fold IntOp.addi (0#32) (fun x => BitVec.setWidth 32 (BitVec.ofBool (p x))) s = BitVec.ofNat 32 (s.filter (fun x => p x = true)).card := by
  induction s using Finset.induction_on with
  | empty => rfl
  | insert a s ha ih =>
    rw [Finset.fold_insert ha, ih, Finset.filter_insert]
    show _ + _ = _
    by_cases h : p a = true
    · rw [if_pos h, Finset.card_insert_of_notMem (fun hh => ha (Finset.mem_filter.1 hh).1), h, BitVec.ofNat_add, BitVec.add_comm]
      rfl
    · rw [if_neg h]
      have : p a = false := by simpa using h
      rw [this]
      simp

theorem card_lt : ∀ c : Fin 255, (Finset.univ.filter (fun x : Fin 254 => x.val < c.val)).card = c.val := by
  decide +kernel

/-- The number of the powers `2 ^ -126, …, 2 ^ 127` that `r` reaches. -/
def count (r : EReal) : BitVec 32 :=
  Finset.fold IntOp.addi (0#32)
    (fun x : Fin 254 => BitVec.setWidth 32 (BitVec.ofBool (decide ((Ideal.ofBits .f32 (IntOp.shli .host (IntOp.addi (1#32) (BitVec.ofNat 32 x.val)) 23#32) : EReal) ≤ r))))
    Finset.univ

theorem host_word (w : BitVec 32) : IntOp.shli .host w 23#32 = w <<< 23 := rfl

theorem power_at (x : Fin 254) : (Ideal.ofBits .f32 (IntOp.shli .host (IntOp.addi (1#32) (BitVec.ofNat 32 x.val)) 23#32) : EReal) = (((2 : ℝ) ^ ((x.val : ℤ) - 126) : ℝ) : EReal) := by
  rw [host_word]
  have e : IntOp.addi (1#32) (BitVec.ofNat 32 x.val) = BitVec.ofNat 32 (x.val + 1) := by
    show _ + _ = _
    rw [BitVec.add_comm, BitVec.ofNat_add]
  rw [e, ofBits_pow (x.val + 1) (by omega) (by omega)]
  congr 2
  push_cast
  ring

theorem count_of (r : ℝ) (c : ℕ) (hc : c ≤ 254) (h : ∀ x : Fin 254, (2 : ℝ) ^ ((x.val : ℤ) - 126) ≤ r ↔ x.val < c) : count (r : EReal) = BitVec.ofNat 32 c := by
  unfold count
  rw [fold_count]
  congr 1
  refine Eq.trans ?_ (card_lt ⟨c, by omega⟩)
  congr 1
  ext x
  simp only [Finset.mem_filter, Finset.mem_univ, true_and, decide_eq_true_eq]
  rw [power_at, EReal.coe_le_coe_iff, h]

theorem count_small (r : ℝ) (h : r < (2 : ℝ) ^ (-126 : ℤ)) : count (r : EReal) = 0#32 :=
  count_of r 0 (by omega) fun x => ⟨fun hx => absurd (lt_of_le_of_lt (le_trans (zpow_le_zpow_right₀ one_le_two (by omega)) hx) h) (lt_irrefl _), fun hx => absurd hx (by omega)⟩

/-- The floor of the binary logarithm. -/
def lg (r : ℝ) : ℤ := ⌊Real.log r / Real.log 2⌋

theorem pow_le_iff (r : ℝ) (h0 : 0 < r) (n : ℤ) : (2 : ℝ) ^ n ≤ r ↔ n ≤ lg r := by
  unfold lg
  rw [Int.le_floor, le_div_iff₀ (Real.log_pos one_lt_two), Real.le_log_iff_exp_le h0, mul_comm, Real.exp_mul, Real.exp_log two_pos, Real.rpow_intCast]

theorem log_range (r : ℝ) (h : (2 : ℝ) ^ (-126 : ℤ) ≤ r) (h' : r < (2 : ℝ) ^ (113 : ℤ)) : -126 ≤ lg r ∧ lg r < 113 := by
  have h0 : 0 < r := lt_of_lt_of_le (by positivity) h
  refine ⟨(pow_le_iff r h0 _).1 h, ?_⟩
  by_contra hc
  exact absurd h' (not_lt.2 ((pow_le_iff r h0 113).2 (not_lt.1 hc)))

theorem count_large (r : ℝ) (h : (2 : ℝ) ^ (-126 : ℤ) ≤ r) (h' : r < (2 : ℝ) ^ (113 : ℤ)) : count (r : EReal) = BitVec.ofNat 32 (lg r + 127).toNat := by
  have h0 : 0 < r := lt_of_lt_of_le (by positivity) h
  obtain ⟨a, b⟩ := log_range r h h'
  refine count_of r _ (by omega) fun x => ?_
  rw [pow_le_iff r h0]
  omega

theorem abs_coe (x : ℝ) : max (x : EReal) (-(x : EReal)) = ((|x| : ℝ) : EReal) := by
  rw [← EReal.coe_neg]
  exact (EReal.coe_strictMono.monotone.map_max (a := x) (b := -x)).symm

/-! ## The exponents -/

/-- The kernel's exponent from the history's largest entry and its magnitude. -/
def eK (hm r : EReal) : BitVec 32 :=
  if hm = 0 then 0#32
  else Scalar.select (IntOp.ori (IntOp.cmpi CmpIPredicate.eq (count r) 0#32) (BitVec.ofBool (decide (r = Ideal.ofBits FTy.f32 2139095040#32))))
    (0#32) (IntOp.subi (count r) 126#32)

/-- The reference's. -/
def eR (hm r : EReal) : EReal :=
  if hm = 0 then 0
  else Scalar.select (α := EReal)
    (IntOp.ori (BitVec.ofBool (decide (r < Ideal.ofBits FTy.f32 8388608#32))) (BitVec.ofBool (decide (r = Ideal.ofBits FTy.f32 2139095040#32))))
    0 (Ideal.liftRound Int.floor (Ideal.div (Ideal.log r) (Ideal.log (Ideal.ofBits FTy.f32 1073741824#32))) + 1)

theorem or_one (b : BitVec 1) : b ||| 1#1 = 1#1 := by
  revert b
  decide

/-- Both are one integer, between `-125` and `113`. -/
theorem exponents (hm r : EReal) (h : r = ⊤ ∨ ∃ x : ℝ, r = (x : EReal) ∧ x < (2 : ℝ) ^ (113 : ℤ)) :
    ∃ e : ℤ, -125 ≤ e ∧ e ≤ 113 ∧ eK hm r = BitVec.ofInt 32 e ∧ eR hm r = ((e : ℝ) : EReal) := by
  unfold eK eR
  rw [bits_least, bits_top, bits_two]
  by_cases h0 : hm = 0
  · refine ⟨0, by omega, by omega, ?_, ?_⟩
    · rw [if_pos h0]; rfl
    · rw [if_pos h0]; simp
  rw [if_neg h0, if_neg h0]
  obtain rfl | ⟨x, rfl, hx⟩ := h
  · refine ⟨0, by omega, by omega, ?_, ?_⟩ <;> simp [Scalar.select, IntOp.ori, or_one]
  by_cases hs : x < (2 : ℝ) ^ (-126 : ℤ)
  · refine ⟨0, by omega, by omega, ?_, ?_⟩
    · rw [count_small x hs]; simp [Scalar.select, IntOp.ori, IntOp.cmpi]
    · simp only [EReal.coe_lt_coe_iff, hs]; simp [Scalar.select, IntOp.ori]
  · have hs' := not_lt.1 hs
    obtain ⟨a, b⟩ := log_range x hs' hx
    refine ⟨lg x + 1, by omega, by omega, ?_, ?_⟩
    · rw [count_large x hs' hx]
      have e2 := BitVec.ofInt_natCast 32 (lg x + 127).toNat
      have hn : BitVec.ofNat 32 (lg x + 127).toNat ≠ 0#32 := by
        intro hc
        have := congrArg BitVec.toNat hc
        simp only [BitVec.toNat_ofNat] at this
        omega
      have e3 : IntOp.subi (BitVec.ofNat 32 (lg x + 127).toNat) 126#32 = BitVec.ofInt 32 (lg x + 1) := by
        show _ - _ = _
        rw [← e2, Int.toNat_of_nonneg (by omega), show lg x + 127 = (lg x + 1) + 126 by ring, BitVec.ofInt_add]
        exact BitVec.add_sub_cancel _ _
      have hb : (BitVec.ofNat 32 (lg x + 127).toNat == 0#32) = false := beq_false_of_ne hn
      rw [e3]
      simp [Scalar.select, IntOp.ori, IntOp.cmpi, hb]
    · rw [decide_eq_false (fun hc => hs (EReal.coe_lt_coe_iff.1 hc))]
      have h0 : 0 < x := lt_of_lt_of_le (by positivity) hs'
      have e1 : Ideal.log ((2 : ℝ) : EReal) = ((Real.log 2 : ℝ) : EReal) := if_neg (by norm_num)
      have e2 : Ideal.log (x : EReal) = ((Real.log x : ℝ) : EReal) := if_neg (not_le.2 h0)
      have e3 : Ideal.div ((Real.log x : ℝ) : EReal) ((Real.log 2 : ℝ) : EReal) = ((Real.log x / Real.log 2 : ℝ) : EReal) := by
        have hl : Real.log 2 ≠ 0 := (Real.log_pos one_lt_two).ne'
        unfold Ideal.div
        rw [if_neg (by exact_mod_cast hl), ← EReal.coe_inv, ← EReal.coe_mul, div_eq_mul_inv]
      have e4 : Ideal.liftRound Int.floor ((Real.log x / Real.log 2 : ℝ) : EReal) + 1 = (((lg x + 1 : ℤ) : ℝ) : EReal) := by
        show ((((lg x : ℤ) : ℝ)) : EReal) + 1 = _
        push_cast
        rfl
      rw [e1, e2, e3, e4]
      simp [Scalar.select, IntOp.ori]

/-! ## The powers -/

theorem powK (e : ℤ) (h : -125 ≤ e) (h' : e ≤ 125) : (Ideal.ofBits .f32 (IntOp.shli .host (IntOp.addi (BitVec.ofInt 32 e) 127#32) 23#32) : EReal) = (((2 : ℝ) ^ e : ℝ) : EReal) := by
  rw [host_word]
  have e1 : IntOp.addi (BitVec.ofInt 32 e) 127#32 = BitVec.ofNat 32 (e + 127).toNat := by
    show _ + _ = _
    have e2 := BitVec.ofInt_natCast 32 (e + 127).toNat
    rw [← e2, Int.toNat_of_nonneg (by omega), BitVec.ofInt_add]
    rfl
  rw [e1, ofBits_pow _ (by omega) (by omega)]
  congr 2
  omega

theorem powR (e : ℤ) : Ideal.exp (((e : ℝ) : EReal) * Ideal.log (Ideal.ofBits .f32 1073741824#32)) = (((2 : ℝ) ^ e : ℝ) : EReal) := by
  rw [bits_two]
  have e1 : Ideal.log ((2 : ℝ) : EReal) = ((Real.log 2 : ℝ) : EReal) := if_neg (by norm_num)
  rw [e1, ← EReal.coe_mul]
  show ((Real.exp _ : ℝ) : EReal) = _
  rw [mul_comm, Real.exp_mul, Real.exp_log two_pos, Real.rpow_intCast]

/-! ## The two scales -/

/-- An entry is of a 32-bit float's range, or infinite. -/
def InRange (x : EReal) : Prop := max x (-x) ≤ Ideal.ofBits .f32 2139095039#32 ∨ max x (-x) = ⊤

theorem ratio_range (hm : EReal) (h : InRange hm) :
    FloatOps.absf (F := Ideal) (φ := .f32) (hm * Ideal.ofBits FTy.f32 932333861#32) = (⊤ : EReal)
      ∨ ∃ x : ℝ, FloatOps.absf (F := Ideal) (φ := .f32) (hm * Ideal.ofBits FTy.f32 932333861#32) = (x : EReal) ∧ x < (2 : ℝ) ^ (113 : ℤ) := by
  obtain ⟨q, hq, q0, q1⟩ := bits_q
  obtain ⟨M, hM, M1⟩ := bits_max
  unfold InRange at h
  rw [hM] at h
  rw [hq]
  show max _ (- _) = _ ∨ ∃ x : ℝ, max _ (- _) = _ ∧ _
  induction hm with
  | bot => left; rw [EReal.bot_mul_coe_of_pos q0]; simp
  | top => left; rw [EReal.top_mul_coe_of_pos q0]; simp
  | coe x =>
    right
    refine ⟨|x * q|, ?_, ?_⟩
    · rw [← EReal.coe_mul, abs_coe]
    · obtain h | h := h
      · rw [abs_coe, EReal.coe_le_coe_iff] at h
        rw [abs_mul, abs_of_pos q0]
        calc |x| * q ≤ |x| * (2 : ℝ) ^ (-15 : ℤ) := by gcongr
          _ < (2 : ℝ) ^ (128 : ℤ) * (2 : ℝ) ^ (-15 : ℤ) := by gcongr; exact lt_of_le_of_lt h M1
          _ = (2 : ℝ) ^ (113 : ℤ) := by rw [← zpow_add₀ two_ne_zero]; norm_num
      · rw [abs_coe] at h
        exact absurd h (EReal.coe_ne_top _)

theorem fold_max_range {n : ℕ} (f : Fin n → EReal) (h : ∀ x, InRange (f x)) (s : Finset (Fin n)) : InRange (Finset.fold max ⊥ f s) := by
  induction s using Finset.induction_on with
  | empty => right; simp
  | insert a s ha ih =>
    rw [Finset.fold_insert ha]
    rcases max_choice (f a) (Finset.fold max ⊥ f s) with e | e <;> rw [e]
    exacts [h a, ih]

theorem histMax_range (h : FVec Ideal Cert.KernelIdeal.S16 .f32) (hh : ∀ k, InRange (h (ix1 k))) (j : Cert.KernelIdeal.S_.Idx) : InRange (Cert.KernelIdeal.Hand.histMax h j) := by
  have e : Cert.KernelIdeal.Hand.histMax h j = Finset.fold max ⊥ (fun k => h (ix1 k)) Finset.univ := by
    rw [← bits_bot]
    pointwise [Cert.KernelIdeal.Hand.histMax]
  rw [e]
  exact fold_max_range _ hh _

theorem ratio_at (h : FVec Ideal Cert.KernelIdeal.S16 .f32) (j : Cert.KernelIdeal.S_.Idx) :
    Cert.KernelIdeal.Hand.ratio h j = FloatOps.absf (F := Ideal) (φ := .f32) (Cert.KernelIdeal.Hand.histMax h j * Ideal.ofBits FTy.f32 932333861#32) := by
  unfold Cert.KernelIdeal.Hand.ratio
  generalize Cert.KernelIdeal.Hand.histMax h = hm
  pointwise

theorem reached_at (h : FVec Ideal Cert.KernelIdeal.S16 .f32) (j : Cert.KernelIdeal.S_.Idx) : Cert.KernelIdeal.Hand.reached h j = count (Cert.KernelIdeal.Hand.ratio h j) := by
  obtain rfl : j = ix0 := Subsingleton.elim _ _
  generalize hr : Cert.KernelIdeal.Hand.ratio h = r
  unfold Cert.KernelIdeal.Hand.reached count
  rw [hr]
  pointwise

theorem expoK_at (h : FVec Ideal Cert.KernelIdeal.S16 .f32) (j : Cert.KernelIdeal.S_.Idx) :
    Cert.KernelIdeal.Hand.expo h j = eK (Cert.KernelIdeal.Hand.histMax h j) (Cert.KernelIdeal.Hand.ratio h j) := by
  have e := reached_at h j
  unfold Cert.KernelIdeal.Hand.expo eK
  rw [← e]
  generalize Cert.KernelIdeal.Hand.reached h = n
  generalize Cert.KernelIdeal.Hand.ratio h = r
  generalize Cert.KernelIdeal.Hand.histMax h = hm
  pointwise

theorem expoR_at (h : FVec Ideal Cert.KernelIdeal.S16 .f32) (j : Cert.KernelIdeal.S_.Idx) :
    Cert.ReferenceIdeal.Hand.expo h j = eR (Cert.KernelIdeal.Hand.histMax h j) (Cert.KernelIdeal.Hand.ratio h j) := by
  show _ = eR (Cert.ReferenceIdeal.Hand.histMax h j) (Cert.ReferenceIdeal.Hand.ratio h j)
  unfold Cert.ReferenceIdeal.Hand.expo eR
  generalize Cert.ReferenceIdeal.Hand.ratio h = r
  generalize Cert.ReferenceIdeal.Hand.histMax h = hm
  pointwise

theorem pow2K_at (e : IVec Cert.KernelIdeal.S_ 32) (j : Cert.KernelIdeal.S_.Idx) :
    Cert.KernelIdeal.Hand.pow2 e j = Ideal.ofBits .f32 (IntOp.shli .host (IntOp.addi (e j) 127#32) 23#32) := by
  unfold Cert.KernelIdeal.Hand.pow2
  pointwise

theorem pow2R_at (e : FVec Ideal Cert.ReferenceIdeal.S_ .f32) (j : Cert.ReferenceIdeal.S_.Idx) :
    Cert.ReferenceIdeal.Hand.pow2 e j = Ideal.exp (e j * Ideal.log (Ideal.ofBits FTy.f32 1073741824#32)) := by
  unfold Cert.ReferenceIdeal.Hand.pow2
  pointwise

/-- The exponent both take. -/
theorem expo_both (h : FVec Ideal Cert.KernelIdeal.S16 .f32) (hh : ∀ k, InRange (h (ix1 k))) (j : Cert.KernelIdeal.S_.Idx) :
    ∃ e : ℤ, -125 ≤ e ∧ e ≤ 113 ∧ Cert.KernelIdeal.Hand.expo h j = BitVec.ofInt 32 e ∧ Cert.ReferenceIdeal.Hand.expo h j = ((e : ℝ) : EReal) := by
  rw [expoK_at, expoR_at]
  exact exponents _ _ (by rw [ratio_at]; exact ratio_range _ (histMax_range h hh j))

/-- The scale is one number. -/
theorem scale_same (h : FVec Ideal Cert.KernelIdeal.S16 .f32) (hh : ∀ k, InRange (h (ix1 k))) :
    Cert.KernelIdeal.Hand.pow2 (Cert.KernelIdeal.Hand.expo h) = Cert.ReferenceIdeal.Hand.pow2 (Cert.ReferenceIdeal.Hand.expo h) := by
  funext j
  obtain ⟨e, l, u, a, b⟩ := expo_both h hh j
  rw [pow2K_at, a, powK e (by omega) (by omega)]
  refine Eq.trans ?_ (pow2R_at _ j).symm
  rw [b, powR]

/-- So is its inverse, which the gradient is multiplied by. -/
theorem inverse_same (h : FVec Ideal Cert.KernelIdeal.S16 .f32) (hh : ∀ k, InRange (h (ix1 k))) (j : Cert.KernelIdeal.S_.Idx) :
    Cert.KernelIdeal.Hand.pow2 (negi (Cert.KernelIdeal.Hand.expo h)) j = Cert.ReferenceIdeal.Hand.pow2 (Host.negf (Cert.ReferenceIdeal.Hand.expo h)) j := by
  obtain ⟨e, l, u, a, b⟩ := expo_both h hh j
  have a' : negi (Cert.KernelIdeal.Hand.expo h) j = BitVec.ofInt 32 (-e) := by
    rw [BitVec.ofInt_neg, ← a]
    pointwise
  have b' : (Host.negf (Cert.ReferenceIdeal.Hand.expo h) j : EReal) = (((-e : ℤ) : ℝ) : EReal) := by
    rw [Int.cast_neg, EReal.coe_neg, ← b]
    pointwise
  rw [pow2K_at, a', powK (-e) (by omega) (by omega)]
  refine Eq.trans ?_ (pow2R_at _ j).symm
  rw [b', powR]

end Cert.Hand
-- ==== Proof.Same.lean ====
/- The kernel's five results are the reference's, array by array. -/
module

public import proofs.«01_k».proof.Proof.Deriv
public import proofs.«01_k».proof.Proof.Scale

@[expose] public section

set_option maxRecDepth 16384

noncomputable section

namespace Cert.Hand

open Idealize.ShloMosaic Idealize.ShloMosaic.Tactic
open Cert.KernelIdeal Cert.KernelIdeal.Gen Cert.KernelIdeal.Hand

variable (X G : S35840x5504.Idx → EReal)

theorem dN_eq (r : Fin 35840) (q : Fin 5504) : dN X G r.val q.val = Cert.ReferenceIdeal.Hand.dref (X (ix2 r q)) (G (ix2 r q)) := by
  rw [dN_of, dval_eq_dref]

/-! ## The codes -/

theorem qval_eq (d v : EReal) : qval d v = Cert.ReferenceIdeal.Hand.qref d v := by
  unfold qval Cert.ReferenceIdeal.Hand.qref
  rw [max_comm, min_comm]

theorem codes_same (v : EReal) : (fun j : S35840x5504.Idx => qval (dN X G (j 0).val (j 1).val) v)
    = Cert.ReferenceIdeal.Gen.k0_pay1 (F := Ideal) (Cert.ReferenceIdeal.Gen.k0_pay6 G X v) := by
  funext j
  obtain ⟨r, q, rfl⟩ : ∃ (r : Fin 35840) (q : Fin 5504), j = ix2 r q := ⟨j 0, j 1, eq_ix2 j⟩
  rw [Cert.ReferenceIdeal.Hand.pay1_at, ← dN_eq, ← qval_eq]
  rfl

theorem codesT_same (v : EReal) : (fun j : S5504x35840.Idx => qval (dN X G (j 1).val (j 0).val) v)
    = Cert.ReferenceIdeal.Gen.k0_pay2 (F := Ideal) (Cert.ReferenceIdeal.Gen.k0_pay4 G X) v := by
  funext j
  obtain ⟨q, r, rfl⟩ : ∃ (q : Fin 5504) (r : Fin 35840), j = ix2 q r := ⟨j 0, j 1, eq_ix2 j⟩
  rw [Cert.ReferenceIdeal.Hand.pay2_at, Cert.ReferenceIdeal.Hand.pay4_at, ← dN_eq, ← qval_eq]
  rfl

/-! ## The bias gradient -/

/-- A sum over eight times as many is a sum by eights. -/
theorem sum_eights (f : ℕ → EReal) (n : ℕ) : ∑ r ∈ Finset.range (8 * n), f r = ∑ s : Fin 8, ∑ i ∈ Finset.range n, f (8 * i + s.val) := by
  rw [Finset.sum_comm]
  induction n with
  | zero => rfl
  | succ n ih =>
    rw [Finset.sum_range_succ, ← ih, show 8 * (n + 1) = 8 * n + 8 by ring, Finset.sum_range_add, ← Fin.sum_univ_eq_sum_range (fun s => f (8 * n + s)) 8]

theorem sums_same : Host.reduceAdd (F := Ideal) (φ := .f32) (fun j : S8x5504.Idx => ∑ i ∈ Finset.range 4480, dN X G (8 * i + (j 0).val) (j 1).val)
      (constant S_ .f32 0x00000000#32) reducesTo_S8x5504_S5504_d0 h_S_
    = Cert.ReferenceIdeal.Gen.k0_pay5 (F := Ideal) G X := by
  funext j
  obtain ⟨q, rfl⟩ : ∃ q : Fin 5504, j = ix1 q := ⟨j 0, eq_ix1 j⟩
  rw [Cert.ReferenceIdeal.Hand.pay5_at]
  simp only [← dN_eq]
  rw [Fin.sum_univ_eq_sum_range (fun r => dN X G r q.val) 35840]
  refine Eq.trans ?_ (sum_eights (fun r => dN X G r q.val) 4480).symm
  pointwise

/-! ## The greatest magnitude -/

theorem aval_nonneg (d : EReal) : 0 ≤ aval d := by
  show 0 ≤ max d (-d)
  rcases le_total 0 d with h | h
  · exact le_max_of_le_left h
  · exact le_max_of_le_right (EReal.neg_nonneg.2 h)

theorem amax_same (a : FVec Ideal S8x128 .f32)
    (ha : ∀ (s : Fin 8) (l : Fin 128) (z : EReal), a (ix2 s l) ≤ z ↔ 0 ≤ z ∧ ∀ k < 43, ∀ i < 4480, aval (dN X G (8 * i + s.val) (128 * k + l.val)) ≤ z) :
    amaxOf a = fun _ => Cert.ReferenceIdeal.Gen.k0_pay3 (F := Ideal) (Cert.ReferenceIdeal.Gen.k0_pay4 G X) := by
  funext j
  refine eq_of_forall_ge_iff fun z => ?_
  refine Iff.trans ?_ (Cert.ReferenceIdeal.Hand.pay3_le _ z).symm
  have e : amaxOf a j ≤ z ↔ ∀ (s : Fin 8) (l : Fin 128), a (ix2 s l) ≤ z := by
    unfold amaxOf
    pointwise
    rw [bits_bot, Finset.fold_max_le]
    simp
  rw [e]
  constructor
  · intro h r q
    rw [Cert.ReferenceIdeal.Hand.pay4_at, ← dN_eq]
    have := ((ha ⟨r.val % 8, by omega⟩ ⟨q.val % 128, by omega⟩ z).1 (h _ _)).2 (q.val / 128) (by omega) (r.val / 8) (by omega)
    simp only [Nat.div_add_mod] at this
    exact this
  · intro h s l
    refine (ha s l z).2 ⟨(aval_nonneg _).trans (h 0 0), fun k hk i hi => ?_⟩
    have := h ⟨8 * i + s.val, by omega⟩ ⟨128 * k + l.val, by omega⟩
    rw [Cert.ReferenceIdeal.Hand.pay4_at, ← dN_eq] at this
    exact this

end Cert.Hand
-- ==== Proof.KernelFrame.lean ====
module

public import proofs.«01_k».proof.Proof.Gen.Kernel.Frame
public import proofs.«01_k».proof.Proof.Gen.Kernel.Loops
public import proofs.«01_k».proof.Proof.Gen.Kernel.Skeleton

@[expose] public section

set_option maxRecDepth 16384

noncomputable section

/-! The kernel as it runs, at any floating-point arithmetic: it ends, its arguments unchanged. Nothing is said here of
what its outputs hold, so each output block is handed to the body at some contents and taken back at some contents. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates. -/
abbrev cond0_0 (i : grid0.Coords) : Prop := (Scalar.cmpi .ne (Scalar.extui (Scalar.cmpi .eq (BitVec.ofNat 32 (i 0).val) 0#32)) 0#32) = 1#1

set_option maxHeartbeats 1000000 in
/-- The body at the first point, where it also clears the two accumulators. -/
theorem run_A (c : Dev nD) (i : grid0.Coords) (arg1 : Memref sig .tc .smem S1 .f32) (harg1 : arg1.IsWhole) (arg2 : Memref sig .tc .vmem S512x5504 .bf16) (harg2 : arg2.IsWhole)
    (arg3 : Memref sig .tc .vmem S512x5504 .bf16) (harg3 : arg3.IsWhole) (arg4 : Memref sig .tc .vmem S8x5504 .f32) (harg4 : arg4.IsWhole)
    (arg5 : Memref sig .tc .vmem S512x5504 .fp8e5m2) (harg5 : arg5.IsWhole) (arg6 : Memref sig .tc .vmem S5504x512 .fp8e5m2) (harg6 : arg6.IsWhole)
    (arg7 : Memref sig .tc .vmem S8x128 .f32) (harg7 : arg7.IsWhole) (hc0 : cond0_0 i)
    (x0 : Vec F S1 .f32) (x1 x2 : Vec F S512x5504 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_gelu_bwd (F := F) i arg1 harg1 arg2 harg2 arg3 harg3 arg4 harg4 arg5 harg5 arg6 harg6 arg7 harg7) K := by
    intro E K
    simp only [cc0_gelu_bwd_eq_skeleton]; unfold cc0_gelu_bwd_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    iexists _; iexists _; isplitr; swap; · iexact H6
    ipureintro; rfl

set_option maxHeartbeats 1000000 in
/-- The body at every other point. -/
theorem run_B (c : Dev nD) (i : grid0.Coords) (arg1 : Memref sig .tc .smem S1 .f32) (harg1 : arg1.IsWhole) (arg2 : Memref sig .tc .vmem S512x5504 .bf16) (harg2 : arg2.IsWhole)
    (arg3 : Memref sig .tc .vmem S512x5504 .bf16) (harg3 : arg3.IsWhole) (arg4 : Memref sig .tc .vmem S8x5504 .f32) (harg4 : arg4.IsWhole)
    (arg5 : Memref sig .tc .vmem S512x5504 .fp8e5m2) (harg5 : arg5.IsWhole) (arg6 : Memref sig .tc .vmem S5504x512 .fp8e5m2) (harg6 : arg6.IsWhole)
    (arg7 : Memref sig .tc .vmem S8x128 .f32) (harg7 : arg7.IsWhole) (hc0 : ¬ cond0_0 i)
    (x0 : Vec F S1 .f32) (x1 x2 : Vec F S512x5504 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_gelu_bwd (F := F) i arg1 harg1 arg2 harg2 arg3 harg3 arg4 harg4 arg5 harg5 arg6 harg6 arg7 harg7) K := by
    intro E K
    simp only [cc0_gelu_bwd_eq_skeleton]; unfold cc0_gelu_bwd_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    iexists _; iexists _; isplitr; swap; · iexact H6
    ipureintro; rfl

variable (m : (ℓ : Loc nD τ sig) → Buf (Elt F) ℓ) (ρ : Dev nD → PrngReg)

/-- The pipeline's proof data: the inputs at their blocks, the outputs at contents that nothing reads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The windows whose contents are left unsaid: the four outputs. -/
def forgets0 : Fin 7 → Bool := fun w => w.val == 3 || w.val == 4 || w.val == 5 || w.val == 6

abbrev ms0_0 (t : Fin cfg0.N) : Memref sig .tc .smem S1 .f32 := win0_0.stage (cfg0.slots t 0)
abbrev ms0_1 (t : Fin cfg0.N) : Memref sig .tc .vmem S512x5504 .bf16 := win0_1.stage (cfg0.slots t 1)
abbrev ms0_2 (t : Fin cfg0.N) : Memref sig .tc .vmem S512x5504 .bf16 := win0_2.stage (cfg0.slots t 2)
abbrev ms0_3 (t : Fin cfg0.N) : Memref sig .tc .vmem S8x5504 .f32 := win0_3.stage (cfg0.slots t 3)
abbrev ms0_4 (t : Fin cfg0.N) : Memref sig .tc .vmem S512x5504 .fp8e5m2 := win0_4.stage (cfg0.slots t 4)
abbrev ms0_5 (t : Fin cfg0.N) : Memref sig .tc .vmem S5504x512 .fp8e5m2 := win0_5.stage (cfg0.slots t 5)
abbrev ms0_6 (t : Fin cfg0.N) : Memref sig .tc .vmem S8x128 .f32 := win0_6.stage (cfg0.slots t 6)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ X, owns (c : Thread nD τ) (ms0_3 t) fullShare X)
    ∗ (∃ X, owns (c : Thread nD τ) (ms0_4 t) fullShare X)
    ∗ (∃ X, owns (c : Thread nD τ) (ms0_5 t) fullShare X)
    ∗ (∃ X, owns (c : Thread nD τ) (ms0_6 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ X, owns (c : Thread nD τ) (ms0_3 t) fullShare X)
    ∗ (∃ X, owns (c : Thread nD τ) (ms0_4 t) fullShare X)
    ∗ (∃ X, owns (c : Thread nD τ) (ms0_5 t) fullShare X)
    ∗ (∃ X, owns (c : Thread nD τ) (ms0_6 t) fullShare X))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  by_cases h0 : cond0_0 (grid0.coords t)
  · iintro ⟨HΦ, Ho, ⟨%d0, H0⟩, ⟨%d1, H1⟩, ⟨%d2, H2⟩, H3, H4, H5, H6⟩
    iapply ((run_A c (grid0.coords t) _ _ _ _ _ _ _ _ _ _ _ _ _ _ h0 (iblk m c 0 t) (iblk m c 1 t) (iblk m c 2 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨HΦ, Ho, ⟨%d0, H0⟩, ⟨%d1, H1⟩, ⟨%d2, H2⟩, H3, H4, H5, H6⟩
    iapply ((run_B c (grid0.coords t) _ _ _ _ _ _ _ _ _ _ _ _ _ _ h0 (iblk m c 0 t) (iblk m c 1 t) (iblk m c 2 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ forgets0 := fun t => by
  rw [bigSep_W0, bigSep_W0, defs₀_row]
  exact triple_restated (sound_body m c t) rfl .rfl fun _ => .rfl

/-- The buffers the host operations after the call write. -/
def T0 : Finset (Ref sig .tc) := {main_cst_13, main_v30, main_cst_14, main_v31, main_call2_v0, main_call2_v1, main_v32, main_c_15, main_v33, main_v34}

theorem sfx_writes : ∀ ops ∈ ([hostOps1, hostOps1_1, hostOps1_2] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, Finset.mem_singleton] at hb; cases Proc.devRef_injective _ hb; decide
  · simp only [hostOps1_1, List.mem_cons, List.mem_nil_iff, or_false] at hop
    rcases hop with rfl | rfl | rfl
    all_goals intro b hb; simp only [StableHlo.nullary_writes, StableHlo.unary_writes, StableHlo.binary_writes, StableHlo.ternary_writes, Finset.mem_singleton] at hb; cases Proc.devRef_injective _ hb; decide
  · simp only [hostOps1_2, List.mem_cons, List.mem_nil_iff, or_false] at hop
    rcases hop with rfl | rfl | rfl
    all_goals intro b hb; simp only [StableHlo.nullary_writes, StableHlo.unary_writes, StableHlo.binary_writes, StableHlo.ternary_writes, Finset.mem_singleton] at hb; cases Proc.devRef_injective _ hb; decide

set_option backward.isDefEq.respectTransparency.types false in
set_option maxHeartbeats 800000 in
/-- The run: every execution ends with each input array as the call found it, each buffer that neither the call nor a later host operation writes likewise, and every semaphore at zero. -/
theorem run_main_quiescent : θ_run defs (onTc (τ := τ) (main (F := F))) (s₀ m ρ)
    (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps) (hT := sfx_writes)
    (hmain := hmain m Variants.none) (hA := A_eq m) (hΦ := fun _ _ => rfl)

/-- Every execution ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨
      (h.1.arr_in c 1 rfl).trans ((A_eq m c 1).trans (V_main_arg0 m c)),
      (h.1.arr_in c 2 rfl).trans ((A_eq m c 2).trans (V_main_arg1 m c)),
      ((h.1 c).2 main_arg2 (Finset.mem_sdiff.mpr ⟨Pipeline.mem_restRefs_of main_arg2 (by decide) (by decide), by decide⟩)).trans (V_main_arg2 m c)⟩, h.2⟩)
    (run_main_quiescent m ρ)

end Cert.Kernel.Hand
-- ==== Proof.Claims.lean ====
/- The claims' conjuncts, one theorem each. -/
module

public import proofs.«01_k».proof.Defs
public import proofs.«01_k».proof.Proof.Same
public import proofs.«01_k».proof.Proof.KernelFrame
public import proofs.«01_k».proof.Proof.Gen.Reference.Frame
public import proofs.«01_k».proof.Proof.Gen.Pre_history_in_f32

@[expose] public section

set_option maxRecDepth 16384

noncomputable section

namespace Cert.Hand

open Idealize.ShloMosaic Idealize.ShloMosaic.Tactic Idealize.SL.Sem

theorem frame_kernel : Cert.quiescent_Kernel := fun m g _ => Cert.Kernel.Hand.frame m g

theorem frame_kernelIdeal : Cert.quiescent_KernelIdeal := fun m g _ => Cert.KernelIdeal.Hand.frame m g

theorem frame_kernelIdeal_pre : Cert.quiescent_KernelIdeal_pre_history_in_f32 := fun m g _ => Cert.KernelIdeal.Hand.frame m g

theorem frame_referenceIdeal : Cert.quiescent_ReferenceIdeal := fun m g _ => Cert.ReferenceIdeal.Gen.frame m g

theorem frame_referenceIdeal_pre : Cert.quiescent_ReferenceIdeal_pre_history_in_f32 := fun m g _ => Cert.ReferenceIdeal.Gen.frame m g

theorem frame_reference : Cert.quiescent_Reference := fun m g _ => Cert.Reference.Gen.frame m g

/-- The kernel's named constants are `√(2/π)` and its two products. -/
theorem preserves_kernel : Cert.preserves_Kernel_KernelIdeal :=
  ⟨IdealRules.named_const.statement Cert.KernelIdeal.κ "kc" .f32 0x3D122279#32 _ rfl,
    IdealRules.named_const.statement Cert.KernelIdeal.κ "k" .f32 0x3F4C422A#32 _ rfl,
    IdealRules.named_const.statement Cert.KernelIdeal.κ "kc3" .f32 0x3DDB33B6#32 _ rfl⟩

/-- The reference's named constants are `0.044715`, `√(2/π)` and `0.134145`. -/
theorem preserves_reference : Cert.preserves_Reference_ReferenceIdeal :=
  ⟨IdealRules.named_const.statement Cert.ReferenceIdeal.κ "c" .f32 0x3D372713#32 _ rfl,
    IdealRules.named_const.statement Cert.ReferenceIdeal.κ "k" .f32 0x3F4C422A#32 _ rfl,
    IdealRules.named_const.statement Cert.ReferenceIdeal.κ "c3" .f32 0x3E095D4F#32 _ rfl⟩

/-- What the precondition says of each entry of the history. -/
theorem pre_range (g x : FVec Ideal Cert.KernelIdeal.S35840x5504 .bf16) (h : FVec Ideal Cert.KernelIdeal.S16 .f32)
    (hp : Cert.Pre_history_in_f32.fn (F := Ideal) g x h = fun _ => 1#1) (k : Fin 16) : InRange (h (ix1 k)) := by
  have e := congrFun hp (ix1 k)
  unfold Cert.Pre_history_in_f32.fn at e
  have e2 : IntOp.ori (BitVec.ofBool (decide (max (h (ix1 k)) (-(h (ix1 k))) ≤ (Ideal.ofBits .f32 2139095039#32 : EReal))))
      (BitVec.ofBool (decide (max (h (ix1 k)) (-(h (ix1 k))) = (Ideal.ofBits .f32 2139095040#32 : EReal)))) = 1#1 := by
    rw [← e]
    pointwise
    rfl
  rw [bits_top] at e2
  unfold InRange
  by_cases h1 : max (h (ix1 k)) (-(h (ix1 k))) ≤ (Ideal.ofBits .f32 2139095039#32 : EReal)
  · exact Or.inl h1
  by_cases h2 : max (h (ix1 k)) (-(h (ix1 k))) = (⊤ : EReal)
  · exact Or.inr h2
  rw [decide_eq_false h1, decide_eq_false h2] at e2
  exact absurd e2 (by decide)

section
open Cert.KernelIdeal Cert.KernelIdeal.Hand

variable (m : (ℓ : Loc nD τ sig) → Buf (Elt Ideal) ℓ)

theorem dbias_same (c : Dev nD) : dbiasK m c = Cert.ReferenceIdeal.Gen.k0_pay5 (F := Ideal) (Garr m c) (Xarr m c) := sums_same _ _

theorem newHist_same (h : FVec Ideal S16 .f32) (a : FVec Ideal S_ .f32) : newHist h a = Cert.ReferenceIdeal.Hand.newHist h a := rfl

theorem hist_same (c : Dev nD) : newHist (Harr m c) (amaxOf (maxsAt m c 69))
    = Cert.ReferenceIdeal.Hand.newHist (Harr m c) (fun _ => Cert.ReferenceIdeal.Gen.k0_pay3 (F := Ideal) (Cert.ReferenceIdeal.Gen.k0_pay4 (Garr m c) (Xarr m c))) := by
  rw [amax_same (Xarr m c) (Garr m c) (maxsAt m c 69) (fun s l z => maxsAt_le m c 69 (by omega) s l z)]
  exact newHist_same _ _

end

/-- The kernel and the reference, at exact arithmetic, end with the same five results. -/
theorem algebraic : Cert.algebraic_KernelIdeal_ReferenceIdeal_pre_history_in_f32 := by
  intro m g m' g' hp hag
  have hr : ∀ c k, InRange (Cert.KernelIdeal.Hand.Harr m c (ix1 k)) := fun c k => pre_range _ _ _ (hp c) k
  have hG : ∀ c, Cert.ReferenceIdeal.Hand.Garr m' c = Cert.KernelIdeal.Hand.Garr m c := fun c => (hag c).1
  have hX : ∀ c, Cert.ReferenceIdeal.Hand.Xarr m' c = Cert.KernelIdeal.Hand.Xarr m c := fun c => (hag c).2.1
  have hH : ∀ c, Cert.ReferenceIdeal.Hand.Harr m' c = Cert.KernelIdeal.Hand.Harr m c := fun c => (hag c).2.2
  have hinv : ∀ c, Cert.ReferenceIdeal.Hand.invR m' c = Cert.KernelIdeal.Hand.invK m c := fun c => by
    unfold Cert.ReferenceIdeal.Hand.invR Cert.KernelIdeal.Hand.invK
    rw [hH]
    exact (inverse_same _ (hr c) _).symm
  refine ⟨fun c => Cert.KernelIdeal.Hand.dbiasK m c,
    fun c => (fun j : Cert.KernelIdeal.S35840x5504.Idx => Cert.KernelIdeal.Hand.qval (Cert.KernelIdeal.Hand.dN (Cert.KernelIdeal.Hand.Xarr m c) (Cert.KernelIdeal.Hand.Garr m c) (j 0).val (j 1).val) (Cert.KernelIdeal.Hand.invK m c)),
    fun c => (fun j : Cert.KernelIdeal.S5504x35840.Idx => Cert.KernelIdeal.Hand.qval (Cert.KernelIdeal.Hand.dN (Cert.KernelIdeal.Hand.Xarr m c) (Cert.KernelIdeal.Hand.Garr m c) (j 1).val (j 0).val) (Cert.KernelIdeal.Hand.invK m c)),
    fun c => Cert.KernelIdeal.Hand.pow2 (Cert.KernelIdeal.Hand.expo (Cert.KernelIdeal.Hand.Harr m c)),
    fun c => Cert.KernelIdeal.Hand.newHist (Cert.KernelIdeal.Hand.Harr m c) (Cert.KernelIdeal.Hand.amaxOf (Cert.KernelIdeal.Hand.maxsAt m c 69)),
    (θ_run Cert.KernelIdeal.defs _ _).mono (fun r h c => ?_) (θ_run_and (Cert.KernelIdeal.Hand.run_values m g) (Cert.KernelIdeal.Hand.unchanged m g)),
    (θ_run Cert.ReferenceIdeal.defs _ _).mono (fun r h c => ?_) (θ_run_and (Cert.ReferenceIdeal.Hand.run_values m' g') (Cert.ReferenceIdeal.Gen.unchanged m' g'))⟩
  · obtain ⟨a, b, d, e, f⟩ := h.1 c
    exact ⟨a, b, d, e, f, h.2 c⟩
  · obtain ⟨a, b, d, e, f⟩ := h.1 c
    rw [hG, hX] at a b d f
    rw [hinv] at b d
    rw [hH] at e f
    exact ⟨a.trans (dbias_same m c).symm, b.trans (codes_same _ _ _).symm, d.trans (codesT_same _ _ _).symm,
      e.trans (scale_same _ (hr c)).symm, f.trans (hist_same m c).symm, h.2 c⟩

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_history_in_f32
public import proofs.«01_k».proof.Proof.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Reference.Gen.facts, Cert.Pre_history_in_f32.Gen.facts,
    Cert.Hand.frame_kernel, Cert.Hand.frame_kernelIdeal, Cert.Hand.frame_kernelIdeal_pre, Cert.Hand.frame_referenceIdeal,
    Cert.Hand.frame_referenceIdeal_pre, Cert.Hand.frame_reference, Cert.Hand.preserves_kernel, Cert.Hand.preserves_reference, Cert.Hand.algebraic⟩

end Cert.Proof

end
